-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x4096 : Shape := ⟨2, ![2048, 4096]⟩
abbrev S4096x8192 : Shape := ⟨2, ![4096, 8192]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)

variable [Facts]

def fn {F : FTy → Type} [FloatOps F] (main_arg0 : FVec F S2048x4096 .f32) (main_arg1 : FVec F S4096x8192 .f32) : IVec S2048x4096 1 × IVec S4096x8192 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  (main_v2, main_v5)
-- ==== Pre_finite_ReferenceIdeal.lean ====
abbrev S2048x4096 : Shape := ⟨2, ![2048, 4096]⟩
abbrev S4096x16384 : Shape := ⟨2, ![4096, 16384]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)

variable [Facts]

def fn {F : FTy → Type} [FloatOps F] (main_arg0 : FVec F S2048x4096 .f32) (main_arg1 : FVec F S4096x16384 .f32) : IVec S2048x4096 1 × IVec S4096x16384 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x16384 .f32 := Host.absf main_arg1
  let main_cst_0 : FVec F S_ .f32 := constant S_ .f32 0x7F800000#32
  let main_v4 : FVec F S4096x16384 .f32 := broadcastInDim S4096x16384 ![] bcast_S_S4096x16384 main_cst_0
  let main_v5 : IVec S4096x16384 1 := cmpf .olt main_v3 main_v4
  (main_v2, main_v5)
-- ==== Kernel.lean ====
abbrev S2048x4096 : Shape := ⟨2, ![2048, 4096]⟩
abbrev S4096x8192 : Shape := ⟨2, ![4096, 8192]⟩
abbrev S16x2048x512 : Shape := ⟨3, ![16, 2048, 512]⟩
abbrev S4096x512 : Shape := ⟨2, ![4096, 512]⟩
abbrev S2048x512 : Shape := ⟨2, ![2048, 512]⟩
abbrev S_ : Shape := ⟨0, ![]⟩
abbrev S16 : Shape := ⟨1, ![16]⟩
abbrev S1x2048x512 : Shape := ⟨3, ![1, 2048, 512]⟩
abbrev S1 : Shape := ⟨1, ![1]⟩
abbrev S1x1024x512 : Shape := ⟨3, ![1, 1024, 512]⟩
abbrev S1024x512 : Shape := ⟨2, ![1024, 512]⟩
abbrev S2048x16384 : Shape := ⟨2, ![2048, 16384]⟩
abbrev S16x64x512 : Shape := ⟨3, ![16, 64, 512]⟩
abbrev S64x16384 : Shape := ⟨2, ![64, 16384]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S16x2048x512, .bf16⟩
  | .hbm, ⟨3, _⟩ => ⟨S16x2048x512, .bf16⟩
  | .hbm, ⟨4, _⟩ => ⟨S2048x16384, .f32⟩
  | .local _ .vmem, ⟨0, _⟩ => ⟨S2048x4096, .f32⟩
  | .local _ .vmem, ⟨1, _⟩ => ⟨S4096x512, .f32⟩
  | .local _ .vmem, ⟨2, _⟩ => ⟨S4096x512, .f32⟩
  | .local _ .vmem, ⟨3, _⟩ => ⟨S2048x512, .bf16⟩
  | .local _ .vmem, ⟨4, _⟩ => ⟨S16x64x512, .bf16⟩
  | .local _ .vmem, ⟨5, _⟩ => ⟨S16x64x512, .bf16⟩
  | .local _ .vmem, ⟨6, _⟩ => ⟨S16x64x512, .bf16⟩
  | .local _ .vmem, ⟨7, _⟩ => ⟨S16x64x512, .bf16⟩
  | .local _ .vmem, ⟨8, _⟩ => ⟨S64x16384, .f32⟩
  | .local _ .vmem, ⟨9, _⟩ => ⟨S64x16384, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc1_sem0_0 : DmaSem sig := 68
abbrev cc1_sem0_1 : DmaSem sig := 69
abbrev cc1_sem1_0 : DmaSem sig := 70
abbrev cc1_sem1_1 : DmaSem sig := 71
abbrev cc1_sem2_0 : DmaSem sig := 72
abbrev cc1_sem2_1 : DmaSem sig := 73
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_4 : BitVec 32 := 0#32
  let v11 : BitVec 1 := Scalar.cmpi .ne v10 c0_i32_4
  v11

def k0_dev1 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v33 : BitVec 32 := Scalar.muli v6 c2_i32_17
  let v34 : BitVec 32 := Scalar.addi c0_i32_18 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v35 : BitVec 32 := Scalar.muli v5 c1_i32_19
  let v36 : BitVec 32 := Scalar.addi v34 v35
  v36.toNat
def k0_dev2 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v37 : BitVec 32 := Scalar.muli v2 c2_i32_21
  let v38 : BitVec 32 := Scalar.addi c0_i32_22 v37
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_23 : BitVec 32 := 1#32
  let v39 : BitVec 32 := Scalar.muli v7 c1_i32_23
  let v40 : BitVec 32 := Scalar.addi v38 v39
  v40.toNat
def k0_cond2 (i : grid0.Coords) : BitVec 1 :=
  let arg0 : BitVec 32 := BitVec.ofNat 32 (i 0).val
  let c1_i32_5 : BitVec 32 := 1#32
  let v12 : BitVec 1 := Scalar.cmpi .sge arg0 c1_i32_5
  let v13 : BitVec 32 := Scalar.extui v12
  let c0_i32_6 : BitVec 32 := 0#32
  let v14 : BitVec 1 := Scalar.cmpi .ne v13 c0_i32_6
  v14

def k0_off1 (i : grid0.Coords) : Fin 3 → Nat :=
  let arg0 : BitVec 32 := BitVec.ofNat 32 (i 0).val
  let c1_i32_16 : BitVec 32 := 1#32
  let v32 : BitVec 32 := Scalar.subi arg0 c1_i32_16
  let c0_i32_17 : BitVec 32 := 0#32
  let c0_i32_18 : BitVec 32 := 0#32
  ![v32.toNat, 0, 0]
def k0_off2 (i : grid0.Coords) : Fin 1 → Nat :=
  let arg0 : BitVec 32 := BitVec.ofNat 32 (i 0).val
  let c1_i32_19 : BitVec 32 := 1#32
  let v35 : BitVec 32 := Scalar.subi arg0 c1_i32_19
  ![v35.toNat]
def k0_off3 (i : grid0.Coords) (d0 : Dev nD) : Fin 3 → Nat :=
  let arg0 : BitVec 32 := BitVec.ofNat 32 (i 0).val
  let c1_i32_19 : BitVec 32 := 1#32
  let v35 : BitVec 32 := Scalar.subi arg0 c1_i32_19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_23 : BitVec 32 := 0#32
  ![v35.toNat, v8.toNat, 0]
def k0_dev3 (d0 : Dev nD) : Nat :=
  let c0_i32_21 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_20 : BitVec 32 := 2#32
  let v36 : BitVec 32 := Scalar.muli v6 c2_i32_20
  let v37 : BitVec 32 := Scalar.addi c0_i32_21 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v38 : BitVec 32 := Scalar.muli v5 c1_i32_22
  let v39 : BitVec 32 := Scalar.addi v37 v38
  v39.toNat
def k0_cond3 (i : grid0.Coords) : BitVec 1 :=
  let arg0 : BitVec 32 := BitVec.ofNat 32 (i 0).val
  let c3_i32 : BitVec 32 := 3#32
  let v15 : BitVec 1 := Scalar.cmpi .sge arg0 c3_i32
  let v16 : BitVec 32 := Scalar.extui v15
  let c0_i32_7 : BitVec 32 := 0#32
  let v17 : BitVec 1 := Scalar.cmpi .ne v16 c0_i32_7
  v17

def k0_off4 (i : grid0.Coords) : Fin 1 → Nat :=
  let arg0 : BitVec 32 := BitVec.ofNat 32 (i 0).val
  let c3_i32_16 : BitVec 32 := 3#32
  let v32 : BitVec 32 := Scalar.subi arg0 c3_i32_16
  ![v32.toNat]
def k0_off5 (i : grid0.Coords) (d0 : Dev nD) : Fin 3 → Nat :=
  let arg0 : BitVec 32 := BitVec.ofNat 32 (i 0).val
  let c3_i32_16 : BitVec 32 := 3#32
  let v32 : BitVec 32 := Scalar.subi arg0 c3_i32_16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_20 : BitVec 32 := 0#32
  ![v32.toNat, v8.toNat, 0]
def k0_dev4 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v43 : BitVec 32 := Scalar.muli v2 c2_i32_22
  let v44 : BitVec 32 := Scalar.addi c0_i32_23 v43
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_24 : BitVec 32 := 1#32
  let v45 : BitVec 32 := Scalar.muli v7 c1_i32_24
  let v46 : BitVec 32 := Scalar.addi v44 v45
  v46.toNat
def k0_off6 (i : grid0.Coords) : Fin 3 → Nat :=
  let arg0 : BitVec 32 := BitVec.ofNat 32 (i 0).val
  let c0_i32_13 : BitVec 32 := 0#32
  let c0_i32_14 : BitVec 32 := 0#32
  ![arg0.toNat, 0, 0]
def k0_cond4 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_15 : BitVec 32 := 0#32
  let v31 : BitVec 1 := Scalar.cmpi .ne v30 c0_i32_15
  v31

def k0_off7 (d0 : Dev nD) : Fin 3 → Nat :=
  let c15_i32_20 : BitVec 32 := 15#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_26 : BitVec 32 := 0#32
  ![15, v8.toNat, 0]
def k0_dev5 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v34 : BitVec 32 := Scalar.muli v6 c2_i32_23
  let v35 : BitVec 32 := Scalar.addi c0_i32_24 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v36 : BitVec 32 := Scalar.muli v5 c1_i32_25
  let v37 : BitVec 32 := Scalar.addi v35 v36
  v37.toNat
def k0_off8 (d0 : Dev nD) : Fin 3 → Nat :=
  let c13_i32_28 : BitVec 32 := 13#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_34 : BitVec 32 := 0#32
  ![13, v8.toNat, 0]
def k0_dev6 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v56 : BitVec 32 := Scalar.muli v2 c2_i32_40
  let v57 : BitVec 32 := Scalar.addi c0_i32_41 v56
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_42 : BitVec 32 := 1#32
  let v58 : BitVec 32 := Scalar.muli v7 c1_i32_42
  let v59 : BitVec 32 := Scalar.addi v57 v58
  v59.toNat
def k0_off9 (d0 : Dev nD) : Fin 3 → Nat :=
  let c14_i32_45 : BitVec 32 := 14#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_51 : BitVec 32 := 0#32
  ![14, v8.toNat, 0]
def k0_dev7 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v78 : BitVec 32 := Scalar.muli v2 c2_i32_57
  let v79 : BitVec 32 := Scalar.addi c0_i32_58 v78
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_59 : BitVec 32 := 1#32
  let v80 : BitVec 32 := Scalar.muli v7 c1_i32_59
  let v81 : BitVec 32 := Scalar.addi v79 v80
  v81.toNat
def k0_dev8 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v100 : BitVec 32 := Scalar.muli v2 c2_i32_75
  let v101 : BitVec 32 := Scalar.addi c0_i32_76 v100
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_77 : BitVec 32 := 1#32
  let v102 : BitVec 32 := Scalar.muli v7 c1_i32_77
  let v103 : BitVec 32 := Scalar.addi v101 v102
  v103.toNat
def k0_off10 (d0 : Dev nD) : Fin 3 → Nat :=
  let c0_i32_81 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_87 : BitVec 32 := 0#32
  ![0, v8.toNat, 0]
def k0_off11 (d0 : Dev nD) : Fin 3 → Nat :=
  let c1_i32_104 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_110 : BitVec 32 := 0#32
  ![1, v8.toNat, 0]
def k0_off12 (d0 : Dev nD) : Fin 3 → Nat :=
  let c2_i32_127 : BitVec 32 := 2#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_133 : BitVec 32 := 0#32
  ![2, v8.toNat, 0]
def k0_off13 (d0 : Dev nD) : Fin 3 → Nat :=
  let c3_i32_150 : BitVec 32 := 3#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_156 : BitVec 32 := 0#32
  ![3, v8.toNat, 0]
def k0_off14 (d0 : Dev nD) : Fin 3 → Nat :=
  let c4_i32_172 : BitVec 32 := 4#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_178 : BitVec 32 := 0#32
  ![4, v8.toNat, 0]
def k0_off15 (d0 : Dev nD) : Fin 3 → Nat :=
  let c5_i32_194 : BitVec 32 := 5#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_200 : BitVec 32 := 0#32
  ![5, v8.toNat, 0]
def k0_off16 (d0 : Dev nD) : Fin 3 → Nat :=
  let c6_i32_216 : BitVec 32 := 6#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_222 : BitVec 32 := 0#32
  ![6, v8.toNat, 0]
def k0_off17 (d0 : Dev nD) : Fin 3 → Nat :=
  let c7_i32_238 : BitVec 32 := 7#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_244 : BitVec 32 := 0#32
  ![7, v8.toNat, 0]
def k0_off18 (d0 : Dev nD) : Fin 3 → Nat :=
  let c8_i32_260 : BitVec 32 := 8#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_266 : BitVec 32 := 0#32
  ![8, v8.toNat, 0]
def k0_off19 (d0 : Dev nD) : Fin 3 → Nat :=
  let c9_i32_282 : BitVec 32 := 9#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_288 : BitVec 32 := 0#32
  ![9, v8.toNat, 0]
def k0_off20 (d0 : Dev nD) : Fin 3 → Nat :=
  let c10_i32_304 : BitVec 32 := 10#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_310 : BitVec 32 := 0#32
  ![10, v8.toNat, 0]
def k0_off21 (d0 : Dev nD) : Fin 3 → Nat :=
  let c11_i32_326 : BitVec 32 := 11#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_332 : BitVec 32 := 0#32
  ![11, v8.toNat, 0]
def k0_off22 (d0 : Dev nD) : Fin 3 → Nat :=
  let c12_i32_348 : BitVec 32 := 12#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c0_i32_354 : BitVec 32 := 0#32
  ![12, v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_off1 (d0 : Dev nD) (c0_i32 : BitVec 32) : Fin 2 → Nat :=
  let c0_118 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v195 : BitVec 32 := Scalar.muli v2 c8192_i32
  let v207 : BitVec 32 := Scalar.addi v195 c0_i32
  let v208 : Index := Scalar.indexCast v207
  ![0, v208.toNat]
def k1_off2 (d0 : Dev nD) (c0_i32_198 : BitVec 32) : Fin 2 → Nat :=
  let c0_199 : Index := 0#32
  let c1_i32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v196 : BitVec 32 := Scalar.subi c1_i32 v2
  let c8192_i32_113 : BitVec 32 := 8192#32
  let v197 : BitVec 32 := Scalar.muli v196 c8192_i32_113
  let v399 : BitVec 32 := Scalar.addi v197 c0_i32_198
  let v400 : Index := Scalar.indexCast v399
  ![0, v400.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x16384, .f32⟩
  | .hbm, ⟨13, _⟩ => ⟨S2048x16384, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Mesh.lean ====
/- The mesh, the printed conditions, devices and offsets in closed form, and the views the exchange moves. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.Ring
public import Idealize.ShloMosaic.Lib.Tactic
public import Idealize.ShloMosaic.Lib.ValueIdx
public import Idealize.ShloMosaic.Lib.ValueLayout
public import Idealize.ShloMosaic.PureOps

@[expose] public section

noncomputable section

namespace Cert.KernelIdeal.Proof

open Cert.KernelIdeal Cert.KernelIdeal.Gen
open Idealize.ShloMosaic
open Idealize.ShloMosaic.TcCoe
open Idealize.ShloMosaic.ValueIdx (ix2 ix3)

/-! ## Devices -/

/-- The neighbour along x. -/
def xn (c : Dev nD) : Dev nD := ⟨(c.val + 2) % 4, Nat.mod_lt _ (by decide)⟩
/-- The neighbour along y. -/
def yn (c : Dev nD) : Dev nD := ⟨2 * (c.val / 2) + (1 - c.val % 2), by have := c.isLt; show _ < 4; have : c.val < 4 := c.isLt; omega⟩
/-- The half a device multiplies and forwards: its y coordinate. -/
def ym (c : Dev nD) : Fin 2 := ⟨c.val % 2, Nat.mod_lt _ (by decide)⟩
/-- The other half. -/
def flip (y : Fin 2) : Fin 2 := ⟨1 - y.val, by omega⟩

theorem xn_xn (c : Dev nD) : xn (xn c) = c := by revert c; decide
theorem yn_yn (c : Dev nD) : yn (yn c) = c := by revert c; decide
theorem xn_yn (c : Dev nD) : xn (yn c) = yn (xn c) := by revert c; decide
theorem ym_xn (c : Dev nD) : ym (xn c) = ym c := by revert c; decide
theorem ym_yn (c : Dev nD) : ym (yn c) = flip (ym c) := by revert c; decide
theorem flip_flip (y : Fin 2) : flip (flip y) = y := by revert y; decide
theorem flip_ne (y : Fin 2) : flip y ≠ y := by revert y; decide
theorem xn_ne_yn (c : Dev nD) : xn c ≠ yn c := by revert c; decide

/-- The x neighbours as a permutation of the devices. -/
def xnE : Dev nD ≃ Dev nD := ⟨xn, xn, xn_xn, xn_xn⟩
/-- The y neighbours as a permutation of the devices. -/
def ynE : Dev nD ≃ Dev nD := ⟨yn, yn, yn_yn, yn_yn⟩

theorem dev1_eq (c : Dev nD) (h) : (⟨k0_dev1 c, h⟩ : Dev nD) = xn c := by revert c; decide
theorem dev2_eq (c : Dev nD) (h) : (⟨k0_dev2 c, h⟩ : Dev nD) = yn c := by revert c; decide
theorem dev3_eq (c : Dev nD) (h) : (⟨k0_dev3 c, h⟩ : Dev nD) = xn c := by revert c; decide
theorem dev4_eq (c : Dev nD) (h) : (⟨k0_dev4 c, h⟩ : Dev nD) = yn c := by revert c; decide
theorem dev5_eq (c : Dev nD) (h) : (⟨k0_dev5 c, h⟩ : Dev nD) = xn c := by revert c; decide
theorem dev6_eq (c : Dev nD) (h) : (⟨k0_dev6 c, h⟩ : Dev nD) = yn c := by revert c; decide
theorem dev7_eq (c : Dev nD) (h) : (⟨k0_dev7 c, h⟩ : Dev nD) = yn c := by revert c; decide
theorem dev8_eq (c : Dev nD) (h) : (⟨k0_dev8 c, h⟩ : Dev nD) = yn c := by revert c; decide

/-! ## Grid points -/

/-- A chunk number at or below 15. -/
def pt16 (t : Fin grid0.N) : Fin 16 := ⟨t.val, N_0 ▸ t.isLt⟩
/-- The chunk n steps before a grid point. -/
def back (t : Fin grid0.N) (n : ℕ) : Fin 16 := ⟨t.val - n, lt_of_le_of_lt (Nat.sub_le _ _) (N_0 ▸ t.isLt)⟩

theorem cond1_iff : ∀ t : Fin grid0.N, k0_cond1 (grid0.coords t) = 1#1 ↔ t.val = 0 := by decide
theorem cond2_iff : ∀ t : Fin grid0.N, k0_cond2 (grid0.coords t) = 1#1 ↔ 1 ≤ t.val := by decide
theorem cond3_iff : ∀ t : Fin grid0.N, k0_cond3 (grid0.coords t) = 1#1 ↔ 3 ≤ t.val := by decide
theorem cond4_iff : ∀ t : Fin grid0.N, k0_cond4 (grid0.coords t) = 1#1 ↔ t.val = 15 := by decide

theorem off1_eq : ∀ t : Fin grid0.N, 1 ≤ t.val → k0_off1 (grid0.coords t) = ![(back t 1).val, 0, 0] := by decide
theorem off2_eq : ∀ t : Fin grid0.N, 1 ≤ t.val → k0_off2 (grid0.coords t) = ![(back t 1).val] := by decide
theorem off3_eq : ∀ t : Fin grid0.N, 1 ≤ t.val → ∀ c : Dev nD, k0_off3 (grid0.coords t) c = ![(back t 1).val, 1024 * (ym c).val, 0] := by decide
theorem off4_eq : ∀ t : Fin grid0.N, 3 ≤ t.val → k0_off4 (grid0.coords t) = ![(back t 3).val] := by decide
theorem off5_eq : ∀ t : Fin grid0.N, 3 ≤ t.val → ∀ c : Dev nD, k0_off5 (grid0.coords t) c = ![(back t 3).val, 1024 * (ym c).val, 0] := by decide
theorem off6_eq : ∀ t : Fin grid0.N, k0_off6 (grid0.coords t) = ![(pt16 t).val, 0, 0] := by decide

theorem off7_eq : ∀ c : Dev nD, k0_off7 c = ![(15 : Fin 16).val, 1024 * (ym c).val, 0] := by decide
theorem off8_eq : ∀ c : Dev nD, k0_off8 c = ![(13 : Fin 16).val, 1024 * (ym c).val, 0] := by decide
theorem off9_eq : ∀ c : Dev nD, k0_off9 c = ![(14 : Fin 16).val, 1024 * (ym c).val, 0] := by decide
theorem off10_eq : ∀ c : Dev nD, k0_off10 c = ![(0 : Fin 16).val, 1024 * (ym c).val, 0] := by decide
theorem off11_eq : ∀ c : Dev nD, k0_off11 c = ![(1 : Fin 16).val, 1024 * (ym c).val, 0] := by decide
theorem off12_eq : ∀ c : Dev nD, k0_off12 c = ![(2 : Fin 16).val, 1024 * (ym c).val, 0] := by decide
theorem off13_eq : ∀ c : Dev nD, k0_off13 c = ![(3 : Fin 16).val, 1024 * (ym c).val, 0] := by decide
theorem off14_eq : ∀ c : Dev nD, k0_off14 c = ![(4 : Fin 16).val, 1024 * (ym c).val, 0] := by decide
theorem off15_eq : ∀ c : Dev nD, k0_off15 c = ![(5 : Fin 16).val, 1024 * (ym c).val, 0] := by decide
theorem off16_eq : ∀ c : Dev nD, k0_off16 c = ![(6 : Fin 16).val, 1024 * (ym c).val, 0] := by decide
theorem off17_eq : ∀ c : Dev nD, k0_off17 c = ![(7 : Fin 16).val, 1024 * (ym c).val, 0] := by decide
theorem off18_eq : ∀ c : Dev nD, k0_off18 c = ![(8 : Fin 16).val, 1024 * (ym c).val, 0] := by decide
theorem off19_eq : ∀ c : Dev nD, k0_off19 c = ![(9 : Fin 16).val, 1024 * (ym c).val, 0] := by decide
theorem off20_eq : ∀ c : Dev nD, k0_off20 c = ![(10 : Fin 16).val, 1024 * (ym c).val, 0] := by decide
theorem off21_eq : ∀ c : Dev nD, k0_off21 c = ![(11 : Fin 16).val, 1024 * (ym c).val, 0] := by decide
theorem off22_eq : ∀ c : Dev nD, k0_off22 c = ![(12 : Fin 16).val, 1024 * (ym c).val, 0] := by decide

/-! ## Views -/

abbrev lM : Memref sig .tc .hbm S16x2048x512 .bf16 := Memref.whole main_v1_0
abbrev oM : Memref sig .tc .hbm S16x2048x512 .bf16 := Memref.whole main_v1_1
abbrev aM : Memref sig .tc .vmem S2048x512 .bf16 := Memref.whole cc0_scratch0

theorem half_inb (k : Fin 16) (y : Fin 2) : ∀ a, ![k.val, 1024 * y.val, 0] a + S1x1024x512.size a ≤ S16x2048x512.size a := by
  revert k y; decide
theorem chunk_inb (k : Fin 16) : ∀ a, ![k.val, 0, 0] a + S1x2048x512.size a ≤ S16x2048x512.size a := by
  revert k; decide

/-- Half y of chunk k of the exchange's output. -/
abbrev oHalf (k : Fin 16) (y : Fin 2) : Memref sig .tc .hbm S1024x512 .bf16 :=
  (oM.slice (Rect.unit (s := S16x2048x512) ![k.val, 1024 * y.val, 0] S1x1024x512.size (half_inb k y)) (fun _ => rfl)).squeeze S1024x512 squeezes_S1x1024x512_S1024x512
/-- Half y of chunk k of the local product. -/
abbrev lHalf (k : Fin 16) (y : Fin 2) : Memref sig .tc .hbm S1024x512 .bf16 :=
  (lM.slice (Rect.unit (s := S16x2048x512) ![k.val, 1024 * y.val, 0] S1x1024x512.size (half_inb k y)) (fun _ => rfl)).squeeze S1024x512 squeezes_S1x1024x512_S1024x512
/-- Chunk k of the local product. -/
abbrev lChunk (k : Fin 16) : Memref sig .tc .hbm S2048x512 .bf16 :=
  (lM.slice (Rect.unit (s := S16x2048x512) ![k.val, 0, 0] S1x2048x512.size (chunk_inb k)) (fun _ => rfl)).squeeze S2048x512 squeezes_S1x2048x512_S2048x512

theorem oslice_eq {o : Fin 3 → ℕ} {k : Fin 16} {y : Fin 2} (h : o = ![k.val, 1024 * y.val, 0])
    (inb : ∀ a, o a + S1x1024x512.size a ≤ S16x2048x512.size a) :
    (oM.slice (Rect.unit (s := S16x2048x512) o S1x1024x512.size inb) (fun _ => rfl)).squeeze S1024x512 squeezes_S1x1024x512_S1024x512 = oHalf k y := by
  subst h; rfl
theorem lslice_eq {o : Fin 3 → ℕ} {k : Fin 16} {y : Fin 2} (h : o = ![k.val, 1024 * y.val, 0])
    (inb : ∀ a, o a + S1x1024x512.size a ≤ S16x2048x512.size a) :
    (lM.slice (Rect.unit (s := S16x2048x512) o S1x1024x512.size inb) (fun _ => rfl)).squeeze S1024x512 squeezes_S1x1024x512_S1024x512 = lHalf k y := by
  subst h; rfl
theorem lchunk_eq {o : Fin 3 → ℕ} {k : Fin 16} (h : o = ![k.val, 0, 0])
    (inb : ∀ a, o a + S1x2048x512.size a ≤ S16x2048x512.size a) :
    (lM.slice (Rect.unit (s := S16x2048x512) o S1x2048x512.size inb) (fun _ => rfl)).squeeze S2048x512 squeezes_S1x2048x512_S2048x512 = lChunk k := by
  subst h; rfl

/-- Reading an index of a half: row r of half y is row 1024 y + r of the chunk. -/
def rowOf (y : Fin 2) (r : Fin 1024) : Fin 2048 := ⟨1024 * y.val + r.val, by omega⟩

theorem oHalf_emb (k : Fin 16) (y : Fin 2) (r : Fin 1024) (q : Fin 512) : (oHalf k y).view.emb (ix2 r q) = ix3 k (rowOf y r) q := by
  show (Rect.unit (s := S16x2048x512) ![k.val, 1024 * y.val, 0] S1x1024x512.size (half_inb k y)).emb (Shape.reshapeEquiv squeezes_S1x1024x512_S1024x512.numel_eq (ix2 r q)) = _
  rw [ValueIdx.reshapeEquiv_ix2_1ab]
  funext a
  apply Fin.ext
  rw [Rect.emb_apply]
  match a with
  | 0 => show k.val + 1 * 0 = k.val; omega
  | 1 => show 1024 * y.val + 1 * r.val = 1024 * y.val + r.val; omega
  | 2 => show 0 + 1 * q.val = q.val; omega
theorem lChunk_emb (k : Fin 16) (r : Fin 2048) (q : Fin 512) : (lChunk k).view.emb (ix2 r q) = ix3 k r q := by
  show (Rect.unit (s := S16x2048x512) ![k.val, 0, 0] S1x2048x512.size (chunk_inb k)).emb (Shape.reshapeEquiv squeezes_S1x2048x512_S2048x512.numel_eq (ix2 r q)) = _
  rw [ValueIdx.reshapeEquiv_ix2_1ab]
  funext a
  apply Fin.ext
  rw [Rect.emb_apply]
  match a with
  | 0 => show k.val + 1 * 0 = k.val; omega
  | 1 => show 0 + 1 * r.val = r.val; omega
  | 2 => show 0 + 1 * q.val = q.val; omega
theorem lHalf_emb (k : Fin 16) (y : Fin 2) (r : Fin 1024) (q : Fin 512) : (lHalf k y).view.emb (ix2 r q) = ix3 k (rowOf y r) q :=
  oHalf_emb k y r q

/-! ## Semaphores -/

def xsS (k : Fin 16) : DmaSem sig := ⟨4 + k.val, by show _ < 74; omega⟩
def xrS (k : Fin 16) : DmaSem sig := ⟨20 + k.val, by show _ < 74; omega⟩
def ysS (k : Fin 16) : DmaSem sig := ⟨36 + k.val, by show _ < 74; omega⟩
def yrS (k : Fin 16) : DmaSem sig := ⟨52 + k.val, by show _ < 74; omega⟩
abbrev cpS : DmaSem sig := ⟨3, by show _ < 74; omega⟩

theorem xs_eq {o : Fin 1 → ℕ} {k : Fin 16} (h : o = ![k.val]) (inb : ∀ a, o a + S1.size a ≤ S16.size a) :
    ((cc0_scratch2.slice (Rect.unit (s := S16) o S1.size inb)).squeeze S_ squeezes_S1_S_).sem = xsS k := by
  subst h; revert k; decide
theorem xr_eq {o : Fin 1 → ℕ} {k : Fin 16} (h : o = ![k.val]) (inb : ∀ a, o a + S1.size a ≤ S16.size a) :
    ((cc0_scratch3.slice (Rect.unit (s := S16) o S1.size inb)).squeeze S_ squeezes_S1_S_).sem = xrS k := by
  subst h; revert k; decide
theorem ys_eq {o : Fin 1 → ℕ} {k : Fin 16} (h : o = ![k.val]) (inb : ∀ a, o a + S1.size a ≤ S16.size a) :
    ((cc0_scratch4.slice (Rect.unit (s := S16) o S1.size inb)).squeeze S_ squeezes_S1_S_).sem = ysS k := by
  subst h; revert k; decide
theorem yr_eq {o : Fin 1 → ℕ} {k : Fin 16} (h : o = ![k.val]) (inb : ∀ a, o a + S1.size a ≤ S16.size a) :
    ((cc0_scratch5.slice (Rect.unit (s := S16) o S1.size inb)).squeeze S_ squeezes_S1_S_).sem = yrS k := by
  subst h; revert k; decide
theorem cp_eq : (cc0_scratch1 : DmaSems sig S_).sem = cpS := by decide

/-- Credit of a half, and of a whole chunk. -/
abbrev Nh : ℕ := (oHalf 0 0).view.dmaCredit
abbrev Nc : ℕ := (lChunk 0).view.dmaCredit
theorem Nh_pos : 0 < Nh := View.dmaCredit_pos _ (by decide)
theorem Nc_pos : 0 < Nc := View.dmaCredit_pos _ (by decide)
theorem oHalf_credit (k : Fin 16) (y : Fin 2) : (oHalf k y).view.dmaCredit = Nh := rfl
theorem lHalf_credit (k : Fin 16) (y : Fin 2) : (lHalf k y).view.dmaCredit = Nh := rfl
theorem lChunk_credit (k : Fin 16) : (lChunk k).view.dmaCredit = Nc := rfl

end Cert.KernelIdeal.Proof

end
-- ==== Proof.Sched.lean ====
/- The exchange's protocol: who pays which semaphore, how much, with what contents, and the order of waits. -/
module

public import proofs.«01_k».proof.Proof.Mesh

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- The pipeline's rounds beside the exchange's (two duties at most on a cell's round). -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

variable (m : (ℓ : Loc nD τ sig) → Buf (Elt F) ℓ)

/-! ## Contents -/

/-- A buffer of chunks. -/
abbrev Chunks (F : FTy → Type) : Type := S16x2048x512.Idx → Elt F .bf16

/-- Grid point number k. -/
def ptOf (k : Fin 16) : Fin grid0.N := ⟨k.val, by rw [N_0]; exact k.isLt⟩
theorem ptOf_pt16 (t : Fin grid0.N) : ptOf (pt16 t) = t := rfl

/-- A device's x. -/
def xin (c : Dev nD) : S2048x4096.Idx → Elt F .f32 := m ((c : Thread nD τ).loc main_arg0)
/-- Block k of a device's columns of w. -/
def wblk (c : Dev nD) (t : Fin grid0.N) : S4096x512.Idx → Elt F .f32 :=
  (win0_1.blk t).view.read (Elt F) (m ((c : Thread nD τ).loc main_arg1))
/-- Chunk k of a device's product. -/
def accv (c : Dev nD) (t : Fin grid0.N) : S2048x512.Idx → Elt F .bf16 := k0_pay1 (xin m c) (wblk m c t)
/-- A device's product, chunk by chunk. -/
def lfin (c : Dev nD) : Chunks F := fun i => accv m c (ptOf (i 0)) (ix2 (i 1) (i 2))
/-- What a device holds of the other column half's product: each row half came from the x neighbour of the device that received it first. -/
def ofin (c : Dev nD) : Chunks F := fun i => if (i 1).val / 1024 = (ym c).val then lfin m (xn c) i else lfin m (xn (yn c)) i

/-- A device's half of chunk k of the exchange's output, at f. -/
abbrev oPt (c : Dev nD) (k : Fin 16) (y : Fin 2) (f : Chunks F) : sProp 𝕄 :=
  (oHalf k y).view.loc (c : Thread nD τ) ↦[(oHalf k y).view.set]{fullShare} f
/-- A device's half of chunk k of its product, at f. -/
abbrev lPt (c : Dev nD) (k : Fin 16) (y : Fin 2) (f : Chunks F) : sProp 𝕄 :=
  (lHalf k y).view.loc (c : Thread nD τ) ↦[(lHalf k y).view.set]{fullShare} f
/-- A device's chunk k of its product, at f. -/
abbrev lcPt (c : Dev nD) (k : Fin 16) (f : Chunks F) : sProp 𝕄 :=
  (lChunk k).view.loc (c : Thread nD τ) ↦[(lChunk k).view.set]{fullShare} f
/-- The scratch the product is computed into, at f. -/
abbrev aPt (c : Dev nD) (f : S2048x512.Idx → Elt F .bf16) : sProp 𝕄 :=
  aM.view.loc (c : Thread nD τ) ↦[aM.view.set]{fullShare} f

theorem idx_half (x : S1024x512.Idx) : ∃ (r : Fin 1024) (q : Fin 512), x = ix2 r q :=
  ⟨x 0, x 1, by funext i; match i with
    | 0 => rfl
    | 1 => rfl⟩
theorem idx_chunk (x : S2048x512.Idx) : ∃ (r : Fin 2048) (q : Fin 512), x = ix2 r q :=
  ⟨x 0, x 1, by funext i; match i with
    | 0 => rfl
    | 1 => rfl⟩
theorem idx_chunks (x : S16x2048x512.Idx) : ∃ (k : Fin 16) (r : Fin 2048) (q : Fin 512), x = ix3 k r q :=
  ⟨x 0, x 1, x 2, by funext i; match i with
    | 0 => rfl
    | 1 => rfl
    | 2 => rfl⟩

/-- An index lies in half y of chunk k exactly if its chunk is k and its row is in the half. -/
theorem mem_half (k : Fin 16) (y : Fin 2) (i : S16x2048x512.Idx) :
    i ∈ ((oHalf k y).view.set : Finset S16x2048x512.Idx) ↔ i 0 = k ∧ (i 1).val / 1024 = y.val := by
  constructor
  · intro h
    obtain ⟨x, -, rfl⟩ := Finset.mem_map.mp h
    obtain ⟨r, q, rfl⟩ := idx_half x
    rw [oHalf_emb]
    refine ⟨rfl, ?_⟩
    show (1024 * y.val + r.val) / 1024 = y.val
    omega
  · obtain ⟨k', r, q, rfl⟩ := idx_chunks i
    rintro ⟨h0, h1⟩
    have h0 : k' = k := h0
    have h1 : r.val / 1024 = y.val := h1
    subst h0
    have : ix3 k' r q = (oHalf k' y).view.emb (ix2 (⟨r.val - 1024 * y.val, by omega⟩ : Fin 1024) q) := by
      refine Eq.trans ?_ (oHalf_emb k' y _ _).symm
      congr 1
      apply Fin.ext; show r.val = 1024 * y.val + (r.val - 1024 * y.val); omega
    rw [this]
    exact View.emb_mem_set _ _
theorem mem_lhalf (k : Fin 16) (y : Fin 2) (i : S16x2048x512.Idx) :
    i ∈ ((lHalf k y).view.set : Finset S16x2048x512.Idx) ↔ i 0 = k ∧ (i 1).val / 1024 = y.val := mem_half k y i
theorem mem_chunk (k : Fin 16) (i : S16x2048x512.Idx) :
    i ∈ ((lChunk k).view.set : Finset S16x2048x512.Idx) ↔ i 0 = k := by
  constructor
  · intro h
    obtain ⟨x, -, rfl⟩ := Finset.mem_map.mp h
    obtain ⟨r, q, rfl⟩ := idx_chunk x
    rw [lChunk_emb]
  · obtain ⟨k', r, q, rfl⟩ := idx_chunks i
    intro h0
    have h0 : k' = k := h0
    subst h0
    rw [← lChunk_emb]
    exact View.emb_mem_set _ _

/-- A chunk is its two halves. -/
theorem lcPt_halves (c : Dev nD) (k : Fin 16) (y : Fin 2) (f : Chunks F) :
    (lcPt c k f : sProp 𝕄) = iprop(lPt c k y f ∗ lPt c k (flip y) f) := by
  have hset : ((lChunk k).view.set : Finset S16x2048x512.Idx) = (lHalf k y).view.set ∪ (lHalf k (flip y)).view.set := by
    ext i
    rw [Finset.mem_union, mem_lhalf, mem_lhalf, mem_chunk]
    have hr : (i 1).val < 2048 := (i 1).isLt
    show _ ↔ (i 0 = k ∧ (i 1).val / 1024 = y.val) ∨ (i 0 = k ∧ (i 1).val / 1024 = 1 - y.val)
    have := y.isLt
    constructor
    · intro h
      by_cases hy : (i 1).val / 1024 = y.val
      · exact .inl ⟨h, hy⟩
      · exact .inr ⟨h, by omega⟩
    · rintro (h | h) <;> exact h.1
  have hd : Disjoint ((lHalf k y).view.set : Finset S16x2048x512.Idx) (lHalf k (flip y)).view.set := by
    rw [Finset.disjoint_left]
    intro i h1 h2
    rw [mem_lhalf] at h1 h2
    exact flip_ne y (Fin.ext (h2.2.symm.trans h1.2))
  show ((lM.view.loc (c : Thread nD τ)) ↦[((lChunk k).view.set : Finset S16x2048x512.Idx)]{fullShare} f : sProp 𝕄) = _
  rw [hset]
  exact BI.equiv_iff.mp ⟨(pointsTo_union hd).1, (pointsTo_union hd).2⟩

/-- A whole buffer of chunks is its halves. -/
theorem o_blocks (c : Dev nD) (f : Chunks F) :
    ((oM.view.loc (c : Thread nD τ)) ↦{fullShare} f : sProp 𝕄)
      = bigSep Finset.univ fun p : Fin 16 × Fin 2 => oPt c p.1 p.2 f := by
  refine Ring.pointsTo_blocks (ℓ := oM.view.loc (c : Thread nD τ)) (fun p : Fin 16 × Fin 2 => ((oHalf p.1 p.2).view.set : Finset S16x2048x512.Idx)) ?_ ?_ f
  · intro b b' hb
    rw [Finset.disjoint_left]
    intro i h1 h2
    rw [mem_half] at h1 h2
    exact hb (Prod.ext (h1.1.symm.trans h2.1) (Fin.ext (h1.2.symm.trans h2.2)))
  · refine Finset.eq_univ_iff_forall.mpr fun i => Finset.mem_biUnion.mpr ?_
    obtain ⟨k, r, q, rfl⟩ := idx_chunks i
    have hq : r.val / 1024 < 2 := Nat.div_lt_of_lt_mul r.isLt
    exact ⟨(k, ⟨r.val / 1024, hq⟩), Finset.mem_univ _, (mem_half k ⟨r.val / 1024, hq⟩ _).mpr ⟨rfl, rfl⟩⟩
theorem l_blocks (c : Dev nD) (f : Chunks F) :
    ((lM.view.loc (c : Thread nD τ)) ↦{fullShare} f : sProp 𝕄) = bigSep Finset.univ fun k : Fin 16 => lcPt c k f := by
  refine Ring.pointsTo_blocks (ℓ := lM.view.loc (c : Thread nD τ)) (fun k : Fin 16 => ((lChunk k).view.set : Finset S16x2048x512.Idx)) ?_ ?_ f
  · intro b b' hb
    rw [Finset.disjoint_left]
    intro i h1 h2
    rw [mem_chunk] at h1 h2
    exact hb (h1.symm.trans h2)
  · refine Finset.eq_univ_iff_forall.mpr fun i => Finset.mem_biUnion.mpr ?_
    exact ⟨i 0, Finset.mem_univ _, (mem_chunk _ _).mpr rfl⟩

/-! What each copy leaves. -/

/-- A local copy of chunk k of the product leaves the product. -/
theorem copy_l (c : Dev nD) (k : Fin 16) (fd : Chunks F) :
    (lcPt c k ((lChunk k).view.write (Elt F) fd (aM.view.read (Elt F) (accv m c (ptOf k))) Finset.univ) : sProp 𝕄)
      = lcPt c k (lfin m c) := by
  refine pointsTo_congr fun i hi => ?_
  obtain ⟨x, -, rfl⟩ := Finset.mem_map.mp hi
  rw [View.write_emb_of_mem _ _ (Finset.mem_univ _)]
  obtain ⟨r, q, rfl⟩ := idx_chunk x
  rw [lChunk_emb]
  rfl
/-- A copy of a half of the product into the x neighbour's output leaves the half as it ends. -/
theorem send_x (c : Dev nD) (k : Fin 16) (fd : Chunks F) :
    (oPt (xn c) k (ym c) ((oHalf k (ym c)).view.write (Elt F) fd ((lHalf k (ym c)).view.read (Elt F) (lfin m c)) Finset.univ) : sProp 𝕄)
      = oPt (xn c) k (ym (xn c)) (ofin m (xn c)) := by
  rw [ym_xn]
  refine pointsTo_congr fun i hi => ?_
  have hm := ((mem_half k (ym c) i).mp hi).2
  obtain ⟨x, -, rfl⟩ := Finset.mem_map.mp hi
  rw [View.write_emb_of_mem _ _ (Finset.mem_univ _)]
  have e : ofin m (xn c) ((oHalf k (ym c)).view.emb x) = lfin m c ((oHalf k (ym c)).view.emb x) := by
    show (if _ then _ else _) = _
    rw [if_pos (by rw [ym_xn]; exact hm), xn_xn]
  exact Eq.symm e
/-- A forwarded half leaves the y neighbour's other half as it ends. -/
theorem send_y (c : Dev nD) (k : Fin 16) (fd : Chunks F) :
    (oPt (yn c) k (ym c) ((oHalf k (ym c)).view.write (Elt F) fd ((oHalf k (ym c)).view.read (Elt F) (ofin m c)) Finset.univ) : sProp 𝕄)
      = oPt (yn c) k (flip (ym (yn c))) (ofin m (yn c)) := by
  rw [ym_yn, flip_flip]
  refine pointsTo_congr fun i hi => ?_
  have hm := ((mem_half k (ym c) i).mp hi).2
  obtain ⟨x, -, rfl⟩ := Finset.mem_map.mp hi
  rw [View.write_emb_of_mem _ _ (Finset.mem_univ _)]
  have e : ofin m (yn c) ((oHalf k (ym c)).view.emb x) = lfin m (xn c) ((oHalf k (ym c)).view.emb x) := by
    show (if _ then _ else _) = _
    rw [if_neg, yn_yn]
    intro h
    rw [ym_yn] at h
    exact flip_ne (ym c) (Fin.ext (h.symm.trans hm))
  have e' : ofin m c ((oHalf k (ym c)).view.emb x) = lfin m (xn c) ((oHalf k (ym c)).view.emb x) := by
    show (if _ then _ else _) = _
    rw [if_pos hm]
  exact e'.trans e.symm

/-! ## Cells -/

abbrev barS : Sem sig := ⟨0, by show 0 < 1; decide⟩
abbrev barC (c : Dev nD) : GSem nD τ sig := ((c : Thread nD τ), .reg barS)
abbrev cpC (c : Dev nD) : GSem nD τ sig := ((c : Thread nD τ), .dma cpS)
abbrev xsC (c : Dev nD) (k : Fin 16) : GSem nD τ sig := ((c : Thread nD τ), .dma (xsS k))
abbrev xrC (c : Dev nD) (k : Fin 16) : GSem nD τ sig := ((c : Thread nD τ), .dma (xrS k))
abbrev ysC (c : Dev nD) (k : Fin 16) : GSem nD τ sig := ((c : Thread nD τ), .dma (ysS k))
abbrev yrC (c : Dev nD) (k : Fin 16) : GSem nD τ sig := ((c : Thread nD τ), .dma (yrS k))

/-- What a device's barrier is paid by its x neighbour: the neighbour's receiving halves, and that its receive cells are open. -/
def barX (c : Dev nD) : sProp 𝕄 :=
  iprop((bigSep Finset.univ fun k : Fin 16 => iprop(∃ f, oPt (xn c) k (ym c) f)) ∗ bigSep Finset.univ fun k : Fin 16 => reached ER (xrC (xn c) k) 0)
/-- What a device's barrier is paid by its y neighbour. -/
def barY (c : Dev nD) : sProp 𝕄 :=
  iprop((bigSep Finset.univ fun k : Fin 16 => iprop(∃ f, oPt (yn c) k (ym c) f)) ∗ bigSep Finset.univ fun k : Fin 16 => reached ER (yrC (yn c) k) 0)
/-- What the copy of chunk k of the product pays: the chunk, and the scratch back. -/
def cpPay (c : Dev nD) (k : Fin 16) : sProp 𝕄 := iprop(lcPt c k (lfin m c) ∗ aPt c (accv m c (ptOf k)))

/-- Which family a DMA semaphore is of, and its number in it. -/
def fam (s : DmaSem sig) : ℕ := if s.val = 3 then 1 else if s.val < 4 then 0 else if s.val < 20 then 2 else if s.val < 36 then 3 else if s.val < 52 then 4 else if s.val < 68 then 5 else 0
def num (s : DmaSem sig) : Fin 16 := ⟨(s.val - 4) % 16, Nat.mod_lt _ (by decide)⟩

/-- The duties of a cell's round. -/
def dut (s : SemLoc sig) (r : ℕ) : Finset Bool :=
  match s with
  | .reg _ => if r = 0 then {false, true} else ∅
  | .dma s => if fam s = 0 then ∅ else if fam s = 1 then (if r < 16 then {false} else ∅) else if r = 0 then {false} else ∅
/-- A duty's amount. -/
def amt (s : SemLoc sig) : ℕ :=
  match s with
  | .reg _ => 1
  | .dma s => if fam s = 1 then Nc else Nh
/-- A duty's payload. -/
def pay (c : Dev nD) (s : SemLoc sig) (r : ℕ) (d : Bool) : sProp 𝕄 :=
  match s with
  | .reg _ => if d then barY c else barX c
  | .dma s =>
    if fam s = 1 then cpPay m c ⟨r % 16, Nat.mod_lt _ (by decide)⟩
    else if fam s = 2 then lPt c (num s) (ym c) (lfin m c)
    else if fam s = 3 then oPt c (num s) (ym c) (ofin m c)
    else if fam s = 4 then oPt c (num s) (ym c) (ofin m c)
    else if fam s = 5 then oPt c (num s) (flip (ym c)) (ofin m c)
    else iprop(emp)

theorem amt_pos (s : SemLoc sig) : 0 < amt s := by
  cases s with
  | reg _ => exact Nat.one_pos
  | dma s => show 0 < (if fam s = 1 then Nc else Nh); split; exacts [Nc_pos, Nh_pos]

/-- The exchange's schedule. -/
def rd : Rounds.Schedule (GSem nD τ sig) Bool 𝕄 where
  duties g r := if g.1.2 = .tc then dut g.2 r else ∅
  unitless _ := False
  amount g _ _ := amt g.2
  payload g r d := pay m g.1.1 g.2 r d
  amount_pos g _ _ _ := amt_pos g.2

instance rd_storable (g : GSem nD τ sig) (r : ℕ) (d : Bool) : BI.Storable (upEmb : UEmb _ 𝕄) ((rd (F := F) m).payload g r d) := by
  show BI.Storable upEmb (pay m g.1.1 g.2 r d)
  unfold pay barX barY cpPay
  (repeat' split) <;> infer_instance

section Facts

variable (c : Dev nD) (k : Fin 16)

theorem fam_xs : fam (xsS k) = 2 := by revert k; decide
theorem fam_xr : fam (xrS k) = 3 := by revert k; decide
theorem fam_ys : fam (ysS k) = 4 := by revert k; decide
theorem fam_yr : fam (yrS k) = 5 := by revert k; decide
theorem num_xs : num (xsS k) = k := by revert k; decide
theorem num_xr : num (xrS k) = k := by revert k; decide
theorem num_ys : num (ysS k) = k := by revert k; decide
theorem num_yr : num (yrS k) = k := by revert k; decide

theorem dut_xs : dut (.dma (xsS k)) 0 = {false} := by revert k; decide
theorem dut_xr : dut (.dma (xrS k)) 0 = {false} := by revert k; decide
theorem dut_ys : dut (.dma (ysS k)) 0 = {false} := by revert k; decide
theorem dut_yr : dut (.dma (yrS k)) 0 = {false} := by revert k; decide
theorem dut_cp : dut (.dma cpS) k.val = {false} := by revert k; decide
theorem dut_later (s : SemLoc sig) (hs : s ≠ .dma cpS) (r : ℕ) (hr : 1 ≤ r) : dut s r = ∅ := by
  cases s with
  | reg _ => exact if_neg (by omega)
  | dma s =>
    have h1 : fam s ≠ 1 := by
      intro h
      apply hs
      unfold fam at h
      have : s.val = 3 := by
        by_contra h'
        rw [if_neg h'] at h
        split_ifs at h <;> omega
      exact congrArg _ (Fin.ext this)
    show (if fam s = 0 then ∅ else if fam s = 1 then _ else if r = 0 then _ else _) = _
    rw [if_neg h1, if_neg (show ¬ r = 0 by omega), ite_self]
theorem dut_later_cp (r : ℕ) (hr : 16 ≤ r) : dut (.dma cpS) r = ∅ := by
  show (if fam cpS = 0 then (∅ : Finset Bool) else if fam cpS = 1 then (if r < 16 then {false} else ∅) else if r = 0 then {false} else ∅) = ∅
  rw [if_neg (by decide), if_pos (by decide), if_neg (by omega)]

theorem amt_xs : amt (.dma (xsS k)) = Nh := by show (if fam (xsS k) = 1 then Nc else Nh) = Nh; rw [fam_xs]; rfl
theorem amt_xr : amt (.dma (xrS k)) = Nh := by show (if fam (xrS k) = 1 then Nc else Nh) = Nh; rw [fam_xr]; rfl
theorem amt_ys : amt (.dma (ysS k)) = Nh := by show (if fam (ysS k) = 1 then Nc else Nh) = Nh; rw [fam_ys]; rfl
theorem amt_yr : amt (.dma (yrS k)) = Nh := by show (if fam (yrS k) = 1 then Nc else Nh) = Nh; rw [fam_yr]; rfl
theorem amt_cp : amt (.dma cpS) = Nc := by show (if fam cpS = 1 then Nc else Nh) = Nc; rw [if_pos (by decide)]

theorem pay_xs (r : ℕ) (d : Bool) : pay m c (.dma (xsS k)) r d = lPt c k (ym c) (lfin m c) := by
  unfold pay; simp only [fam_xs, num_xs]; rfl
theorem pay_xr (r : ℕ) (d : Bool) : pay m c (.dma (xrS k)) r d = oPt c k (ym c) (ofin m c) := by
  unfold pay; simp only [fam_xr, num_xr]; rfl
theorem pay_ys (r : ℕ) (d : Bool) : pay m c (.dma (ysS k)) r d = oPt c k (ym c) (ofin m c) := by
  unfold pay; simp only [fam_ys, num_ys]; rfl
theorem pay_yr (r : ℕ) (d : Bool) : pay m c (.dma (yrS k)) r d = oPt c k (flip (ym c)) (ofin m c) := by
  unfold pay; simp only [fam_yr, num_yr]; rfl
theorem pay_cp (d : Bool) : pay m c (.dma cpS) k.val d = cpPay m c k := by
  unfold pay
  show (if fam cpS = 1 then cpPay m c ⟨k.val % 16, _⟩ else _) = _
  rw [if_pos (by decide)]
  congr 1
  exact Fin.ext (Nat.mod_eq_of_lt k.isLt)

theorem duties_tc (s : SemLoc sig) (r : ℕ) : (rd (F := F) m).duties ((c : Thread nD τ), s) r = dut s r := by
  dsimp only [rd]; exact if_pos rfl
theorem amount_tc (s : SemLoc sig) (r : ℕ) (d : Bool) : (rd (F := F) m).amount ((c : Thread nD τ), s) r d = amt s := rfl
theorem payload_tc (s : SemLoc sig) (r : ℕ) (d : Bool) : (rd (F := F) m).payload ((c : Thread nD τ), s) r d = pay m c s r d := rfl

/-- A round of one duty expects its amount. -/
theorem expect_one (s : SemLoc sig) (r : ℕ) (h : dut s r = {false}) : (rd (F := F) m).expect ((c : Thread nD τ), s) r = amt s := by
  unfold Schedule.expect Schedule.amountOf; rw [duties_tc, h, Finset.sum_singleton]; rfl
theorem expect_bar : (rd (F := F) m).expect (barC c) 0 = 2 := by
  unfold Schedule.expect Schedule.amountOf; rw [duties_tc]; rfl
/-- The rest of a round of one duty is its payload. -/
theorem rest_one (s : SemLoc sig) (r : ℕ) (h : dut s r = {false}) :
    bigSep ((rd (F := F) m).duties ((c : Thread nD τ), s) r \ ∅) (fun d => (rd (F := F) m).payload ((c : Thread nD τ), s) r d) = pay m c s r false := by
  rw [Finset.sdiff_empty, duties_tc, h, bigSep_singleton]; rfl
theorem rest_bar :
    bigSep ((rd (F := F) m).duties (barC c) 0 \ ∅) (fun d => (rd (F := F) m).payload (barC c) 0 d) = iprop(barX c ∗ barY c) := by
  rw [Finset.sdiff_empty, duties_tc]
  show bigSep (insert false {true}) _ = _
  rw [bigSep_insert (by decide), bigSep_singleton]; rfl

end Facts

end Cert.KernelIdeal.Proof

end
-- ==== Proof.Steps.lean ====
/- What a device owes and may wait for, the families of what it holds, and the exchange's steps one by one. -/
module

public import proofs.«01_k».proof.Proof.Sched

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Levels and debts -/

/-- Barriers are waited for first, then the x arrivals in order, then the y arrivals in order. -/
def lvS : SemLoc sig → ℕ
  | .reg _ => 1
  | .dma s => if fam s = 3 then 2 + (num s).val else if fam s = 5 then 100 + (num s).val else 0
def lv (g : GSem nD τ sig) (_ : Unit) : ℕ := lvS g.2
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lvS_cp : lvS (.dma cpS) = 0 := by decide
theorem lvS_xs (k : Fin 16) : lvS (.dma (xsS k)) = 0 := by revert k; decide
theorem lvS_ys (k : Fin 16) : lvS (.dma (ysS k)) = 0 := by revert k; decide
theorem lvS_xr (k : Fin 16) : lvS (.dma (xrS k)) = 2 + k.val := by revert k; decide
theorem lvS_yr (k : Fin 16) : lvS (.dma (yrS k)) = 100 + k.val := by revert k; decide

/-- What a device still owes its x neighbour's receive cells once it has sent n chunks. -/
def owX (c : Dev nD) (n : ℕ) : CellTallies nD τ sig Unit := ∑ k : Fin 16, if n ≤ k.val then tallyAt (xrC (xn c) k) () Nh else 0
/-- What a device still owes its y neighbour's receive cells once it has forwarded n chunks. -/
def owY (c : Dev nD) (n : ℕ) : CellTallies nD τ sig Unit := ∑ k : Fin 16, if n ≤ k.val then tallyAt (yrC (yn c) k) () Nh else 0

theorem sum_step {A : Type} [AddCommMonoid A] (f : Fin 16 → A) (k : Fin 16) :
    (∑ j : Fin 16, if k.val ≤ j.val then f j else 0) = (∑ j : Fin 16, if k.val + 1 ≤ j.val then f j else 0) + f k := by
  rw [← Finset.sum_erase_add Finset.univ _ (Finset.mem_univ k), if_pos (le_refl _),
    ← Finset.sum_erase_add (s := Finset.univ) (f := fun j : Fin 16 => if k.val + 1 ≤ j.val then f j else 0) (h := Finset.mem_univ k), if_neg (by omega), add_zero]
  congr 1
  refine Finset.sum_congr rfl fun j hj => ?_
  have hne : j.val ≠ k.val := fun h => (Finset.ne_of_mem_erase hj) (Fin.ext h)
  exact if_congr (by omega) rfl rfl
theorem owX_step (c : Dev nD) (k : Fin 16) : owX c k.val = owX c (k.val + 1) + tallyAt (xrC (xn c) k) () Nh := sum_step _ k
theorem owY_step (c : Dev nD) (k : Fin 16) : owY c k.val = owY c (k.val + 1) + tallyAt (yrC (yn c) k) () Nh := sum_step _ k
theorem owX_end (c : Dev nD) : owX c 16 = 0 := Finset.sum_eq_zero fun k _ => if_neg (by omega)
theorem owY_end (c : Dev nD) : owY c 16 = 0 := Finset.sum_eq_zero fun k _ => if_neg (by omega)
theorem tally_sum_pos (n : ℕ) (C : Fin 16 → GSem nD τ sig) {g : GSem nD τ sig} {u : Unit}
    (h : 0 < (∑ k : Fin 16, if n ≤ k.val then (tallyAt (C k) () Nh : CellTallies nD τ sig Unit) else 0) g u) : ∃ k : Fin 16, n ≤ k.val ∧ g = C k := by
  rw [Finset.sum_apply, Finsupp.finset_sum_apply] at h
  obtain ⟨k, -, hk⟩ := Finset.exists_ne_zero_of_sum_ne_zero h.ne'
  by_cases hn : n ≤ k.val
  · rw [if_pos hn, tallyAt_apply] at hk
    by_cases hg : g = C k ∧ u = ()
    · exact ⟨k, hn, hg.1⟩
    · rw [if_neg hg] at hk; exact absurd rfl hk
  · rw [if_neg hn] at hk; exact absurd rfl hk

/-- A device may wait on a cell below all it owes. -/
theorem mayWait (c : Dev nD) (s : SemLoc sig) (nx ny : ℕ) (hx : ∀ k : Fin 16, nx ≤ k.val → lvS s < 2 + k.val) (hy : ∀ k : Fin 16, ny ≤ k.val → lvS s < 100 + k.val) :
    (levAts L lv : sProp 𝕄) ⊢ MayWait (c : Thread nD τ) s () (owX c nx + owY c ny) := by
  have key : ∀ (g : GSem nD τ sig) (u : Unit), 0 < (owX c nx + owY c ny) g u → () ∈ L g ∧ lvS s < lv g u := by
    intro g u h
    rw [Pi.add_apply, Finsupp.add_apply] at h
    rcases Nat.add_pos_iff_pos_or_pos.mp h with h | h
    · obtain ⟨k, hk, rfl⟩ := tally_sum_pos nx (fun k => xrC (xn c) k) h
      exact ⟨by rw [L_tc]; exact Finset.mem_singleton_self _, by show lvS s < lvS _; rw [lvS_xr]; exact hx k hk⟩
    · obtain ⟨k, hk, rfl⟩ := tally_sum_pos ny (fun k => yrC (yn c) k) h
      exact ⟨by rw [L_tc]; exact Finset.mem_singleton_self _, by show lvS s < lvS _; rw [lvS_yr]; exact hy k hk⟩
  exact MayOwe.of_cut (L := L) (lev := lv) (lvS s) (fun p hp => by rw [Finset.mem_singleton.mp hp, L_tc]; exact Finset.mem_singleton_self _)
    (fun g u hg => (key g u hg).1) (fun p hp => by rw [Finset.mem_singleton.mp hp]; exact le_refl _) (fun g u hg => (key g u hg).2)

/-- A device owing what is left after nx chunks sent and ny forwarded. -/
def ow (c : Dev nD) (nx ny : ℕ) : sProp 𝕄 := iprop(∃ W, owes (c : Thread nD τ) (owX c nx + owY c ny) W)

/-! ## Cells -/

/-- The semaphores the kernel has for its own: the local copy's, and four families of sixteen. -/
abbrev OS : Type := Unit ⊕ (Fin 4 × Fin 16)
def famS : Fin 4 → Fin 16 → DmaSem sig
  | 0, k => xsS k
  | 1, k => xrS k
  | 2, k => ysS k
  | 3, k => yrS k
def osem : OS → SemLoc sig
  | .inl _ => .dma cpS
  | .inr p => .dma (famS p.1 p.2)

theorem famS_val (f : Fin 4) (k : Fin 16) : (famS f k).val = 4 + 16 * f.val + k.val := by
  match f with
  | 0 => show 4 + k.val = 4 + 16 * 0 + k.val; omega
  | 1 => show 20 + k.val = 4 + 16 * 1 + k.val; omega
  | 2 => show 36 + k.val = 4 + 16 * 2 + k.val; omega
  | 3 => show 52 + k.val = 4 + 16 * 3 + k.val; omega
theorem osem_inj : Function.Injective osem := by
  rintro (_ | ⟨f, k⟩) (_ | ⟨f', k'⟩) h
  · rfl
  · have h : cpS = famS f' k' := SemLoc.dma.inj h
    have h := congrArg Fin.val h
    rw [famS_val] at h
    exact absurd h (by show ¬ 3 = _; omega)
  · have h : famS f k = cpS := SemLoc.dma.inj h
    have h := congrArg Fin.val h
    rw [famS_val] at h
    exact absurd h (by show ¬ _ = 3; omega)
  · have h : famS f k = famS f' k' := SemLoc.dma.inj h
    have h := congrArg Fin.val h
    rw [famS_val, famS_val] at h
    have h1 : f = f' := Fin.ext (by omega)
    subst h1
    have h2 : k = k' := Fin.ext (by omega)
    subst h2
    rfl
theorem osem_ne_bar (o : OS) : osem o ≠ .reg barS := by
  cases o <;> exact fun h => by cases h

def barEmb : Dev nD ↪ GSem nD τ sig := ⟨fun c => barC c, fun _ _ h => congrArg (fun g : GSem nD τ sig => g.1.1) h⟩
def ownEmb : Dev nD × OS ↪ GSem nD τ sig :=
  ⟨fun p => ((p.1 : Thread nD τ), osem p.2), fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb
abbrev cells : Finset (GSem nD τ sig) := barCells ∪ ownCells

theorem bar_mem (c : Dev nD) : barC c ∈ cells := Finset.mem_union_left _ (Finset.mem_map_of_mem barEmb (Finset.mem_univ c))
theorem own_mem (c : Dev nD) (o : OS) : ((c : Thread nD τ), osem o) ∈ cells := Finset.mem_union_right _ (Finset.mem_map_of_mem ownEmb (Finset.mem_univ (c, o)))
theorem cp_mem (c : Dev nD) : cpC c ∈ cells := own_mem c (.inl ())
theorem xs_mem (c : Dev nD) (k : Fin 16) : xsC c k ∈ cells := own_mem c (.inr (0, k))
theorem xr_mem (c : Dev nD) (k : Fin 16) : xrC c k ∈ cells := own_mem c (.inr (1, k))
theorem ys_mem (c : Dev nD) (k : Fin 16) : ysC c k ∈ cells := own_mem c (.inr (2, k))
theorem yr_mem (c : Dev nD) (k : Fin 16) : yrC c k ∈ cells := own_mem c (.inr (3, k))

/-- Every cell's invariant, under one map of names, and the levels. -/
def Inv (κ : GSem nD τ sig → ℕ) : sProp 𝕄 := iprop((bigSep cells fun g => cellInv ER (rd m) (κ g) g) ∗ levAts L lv)
instance Inv_persistent (κ : GSem nD τ sig → ℕ) : BI.Persistent (Inv m κ) := by unfold Inv; infer_instance
theorem Inv_at (κ : GSem nD τ sig → ℕ) {g : GSem nD τ sig} (hg : g ∈ cells) : Inv m κ ⊢ cellInv ER (rd m) (κ g) g := by
  unfold Inv
  iintro ⟨H, -⟩
  iapply (show (bigSep cells fun g => (cellInv ER (rd m) (κ g) g : sProp 𝕄)) ⊢ cellInv ER (rd m) (κ g) g from bigSep_elim hg)
  iexact H
theorem Inv_lev (κ : GSem nD τ sig → ℕ) : Inv m κ ⊢ levAts L lv := by
  unfold Inv
  iintro ⟨-, H⟩
  iexact H

/-! ## Families -/

/-- The family A up to n, the family B from n on. -/
def stages (A B : Fin 16 → sProp 𝕄) (n : ℕ) : sProp 𝕄 := bigSep Finset.univ fun k : Fin 16 => if k.val < n then A k else B k
theorem stages_zero (A B : Fin 16 → sProp 𝕄) : stages A B 0 = bigSep Finset.univ B := bigSep_congr fun k _ => if_neg (by omega)
theorem stages_end (A B : Fin 16 → sProp 𝕄) : stages A B 16 = bigSep Finset.univ A := bigSep_congr fun k _ => if_pos k.isLt
/-- The family moves on by one member. -/
theorem stages_step (A B : Fin 16 → sProp 𝕄) (k : Fin 16) : stages A B k.val ⊢ iprop(B k ∗ (A k -∗ stages A B (k.val + 1))) := by
  unfold stages
  rw [bigSep_univ_at _ k, bigSep_univ_at (fun j : Fin 16 => if j.val < k.val + 1 then A j else B j) k, if_neg (lt_irrefl _), if_pos (Nat.lt_succ_self _),
    bigSep_congr (s := Finset.univ.erase k) (Φ := fun j : Fin 16 => if j.val < k.val + 1 then A j else B j) (Ψ := fun j : Fin 16 => if j.val < k.val then A j else B j) ?_]
  · iintro ⟨HB, HR⟩
    isplitl [HB]; · iexact HB
    iintro HA
    isplitl [HA] <;> iassumption
  · intro j hj
    have hne : j.val ≠ k.val := fun h => (Finset.ne_of_mem_erase hj) (Fin.ext h)
    show (if j.val < k.val + 1 then A j else B j) = (if j.val < k.val then A j else B j)
    by_cases h : j.val < k.val
    · rw [if_pos h, if_pos (by omega)]
    · rw [if_neg h, if_neg (by omega)]

/-- Before chunk k is sent to the x neighbour: the tokens to pay with, and the neighbour's half. -/
def xU (c : Dev nD) (k : Fin 16) : sProp 𝕄 :=
  iprop(dutyTok ER (xsC c k) 0 false ∗ reached ER (xsC c k) 0 ∗ dutyTok ER (xrC (xn c) k) 0 false ∗ reached ER (xrC (xn c) k) 0 ∗ ∃ f, oPt (xn c) k (ym c) f)
/-- After: the credit to wait for the sending. -/
def xS (c : Dev nD) (k : Fin 16) : sProp 𝕄 := cred (tallyAt (xsC c k) () Nh)
def X (c : Dev nD) (n : ℕ) : sProp 𝕄 := stages (xS c) (xU c) n

/-- Before chunk k is received from the x neighbour and forwarded to the y neighbour. -/
def yT (c : Dev nD) (k : Fin 16) : sProp 𝕄 :=
  iprop(dutyTok ER (ysC c k) 0 false ∗ reached ER (ysC c k) 0 ∗ dutyTok ER (yrC (yn c) k) 0 false ∗ reached ER (yrC (yn c) k) 0 ∗ ∃ f, oPt (yn c) k (ym c) f)
def yU (c : Dev nD) (k : Fin 16) : sProp 𝕄 := iprop(yT c k ∗ cred (tallyAt (xrC c k) () Nh) ∗ atPos ER (xrC c k) 0 ∅ 0)
def yS (c : Dev nD) (k : Fin 16) : sProp 𝕄 := iprop(cred (tallyAt (ysC c k) () Nh) ∗ atPos ER (xrC c k) 1 ∅ 0)
def Y (c : Dev nD) (n : ℕ) : sProp 𝕄 := stages (yS c) (yU c) n
/-- Between chunk k's arrival and its forwarding. -/
def yM (c : Dev nD) (k : Fin 16) : sProp 𝕄 :=
  iprop(yT c k ∗ atPos ER (xrC c k) 1 ∅ 0 ∗ oPt c k (ym c) (ofin m c) ∗ (yS c k -∗ Y c (k.val + 1)))

/-- The half of chunk k of the product which stays once the other half is sent. -/
def lS (c : Dev nD) (k : Fin 16) : sProp 𝕄 := lPt c k (flip (ym c)) (lfin m c)
def lU (c : Dev nD) (k : Fin 16) : sProp 𝕄 := iprop((∃ f, lcPt c k f) ∗ dutyTok ER (cpC c) k.val false)
def LP (c : Dev nD) (n : ℕ) : sProp 𝕄 := stages (lS m c) (fun _ => iprop(emp)) n
def LU (c : Dev nD) (n : ℕ) : sProp 𝕄 := stages (fun _ => iprop(emp)) (lU c) n

/-- The local copy's cell between copies, with the scratch. -/
def cpI (c : Dev nD) (n : ℕ) : sProp 𝕄 := iprop(atPos ER (cpC c) n ∅ 0 ∗ reached ER (cpC c) n ∗ ∃ f, aPt c f)
/-- The local copy in flight. -/
def cpF (c : Dev nD) (n : ℕ) : sProp 𝕄 := iprop(cred (tallyAt (cpC c) () Nc) ∗ atPos ER (cpC c) n ∅ 0)

/-- The waits at the end, family by family. -/
def XS (c : Dev nD) (n : ℕ) : sProp 𝕄 :=
  stages (fun k => iprop(atPos ER (xsC c k) 1 ∅ 0 ∗ lPt c k (ym c) (lfin m c))) (fun k => iprop(cred (tallyAt (xsC c k) () Nh) ∗ atPos ER (xsC c k) 0 ∅ 0)) n
def YS (c : Dev nD) (n : ℕ) : sProp 𝕄 :=
  stages (fun k => iprop(atPos ER (ysC c k) 1 ∅ 0 ∗ oPt c k (ym c) (ofin m c))) (fun k => iprop(cred (tallyAt (ysC c k) () Nh) ∗ atPos ER (ysC c k) 0 ∅ 0)) n
def YR (c : Dev nD) (n : ℕ) : sProp 𝕄 :=
  stages (fun k => iprop(atPos ER (yrC c k) 1 ∅ 0 ∗ oPt c k (flip (ym c)) (ofin m c))) (fun k => iprop(cred (tallyAt (yrC c k) () Nh) ∗ atPos ER (yrC c k) 0 ∅ 0)) n

/-! ## Steps -/

variable (κ : GSem nD τ sig → ℕ) (c : Dev nD)

/-- A wait for the one duty of a cell's round: the position moves on and the payload comes. -/
theorem wait_one {s s' : DmaSem sig} (hs : s' = s) (r : ℕ) {sp sp' : Space} {sh sh' : Shape} {e e' : EltTy} {src : Memref sig .tc sp' sh' e'} {dst : Memref sig .tc sp sh e}
    {h1 : src.view.WordExact} {h2 : dst.view.WordExact} (hg : ((c : Thread nD τ), SemLoc.dma s) ∈ cells) (hd : dut (.dma s) r = {false})
    {N : ℕ} (hN : amt (.dma s) = N) (ha : dst.view.dmaCredit = N) (nx ny : ℕ)
    (hx : ∀ k : Fin 16, nx ≤ k.val → lvS (.dma s) < 2 + k.val) (hy : ∀ k : Fin 16, ny ≤ k.val → lvS (.dma s) < 100 + k.val)
    {P : sProp 𝕄} (hP : pay m c (.dma s) r false = P)
    {α : Type} {k : PUnit → Prog (TpuEff nD τ sig (Elt F) Λ₀ .tc) α} {Q : α → sProp 𝕄} :
    iprop(Inv m κ ∗ cred (tallyAt ((c : Thread nD τ), SemLoc.dma s) () N) ∗ ow c nx ny ∗ atPos ER ((c : Thread nD τ), SemLoc.dma s) r ∅ 0)
      ⊢ iprop(((ow c nx ny ∗ atPos ER ((c : Thread nD τ), SemLoc.dma s) (r + 1) ∅ 0 ∗ reached ER ((c : Thread nD τ), SemLoc.dma s) (r + 1) ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s' src dst h1 h2) k) Q) := by
  subst hs hN hP
  unfold ow
  iintro ⟨#HI, Hc, ⟨%W, HO⟩, Hat⟩ Hk
  iapply (Rounds.wp_wait_rest_token 𝒱₀ ER (rd m) (c : Thread nD τ) none (κ := κ ((c : Thread nD τ), SemLoc.dma s'))
      (wpE_waitDma2_eq 𝒱₀ (c : Thread nD τ) none Set.univ) (Set.mem_univ _) () (O := owX c nx + owY c ny) (W := W) (R := r) (m := 0) (T := ∅)
      ((Nat.zero_add _).trans (ha.trans (expect_one m c _ r hd).symm))) $$ [Hc HO Hat]
  · isplitr; · iapply (Inv_at m κ hg); iexact HI
    isplitl [Hc]; · rw [ha]; iexact Hc
    isplitl [HO]; · iexact HO
    isplitr; · iapply (mayWait c _ nx ny hx hy); iapply (Inv_lev m κ); iexact HI
    iexact Hat
  iintro ⟨HO, Hat, Hr, Hpay⟩
  ihave Hp := (Entails.of_eq (rest_one m c _ r hd)) $$ Hpay
  iapply Hk
  isplitl [HO]; · iexists _; iexact HO
  isplitl [Hat]; · iexact Hat
  isplitl [Hr]; · iexact Hr
  iexact Hp

/-- The wait for the local copy of chunk k: the chunk is the product's, and the scratch is back. -/
theorem cp_wait (k : Fin 16) {s' : DmaSem sig} (hs : s' = cpS) {sp sp' : Space} {sh sh' : Shape} {e e' : EltTy} {src : Memref sig .tc sp' sh' e'} {dst : Memref sig .tc sp sh e}
    {h1 : src.view.WordExact} {h2 : dst.view.WordExact} (ha : dst.view.dmaCredit = Nc) (nx ny : ℕ)
    {α : Type} {kk : PUnit → Prog (TpuEff nD τ sig (Elt F) Λ₀ .tc) α} {Q : α → sProp 𝕄} :
    iprop(Inv m κ ∗ cpF c k.val ∗ LP m c k.val ∗ ow c nx ny)
      ⊢ iprop(((cpI c (k.val + 1) ∗ LP m c (k.val + 1) ∗ lPt c k (ym c) (lfin m c) ∗ ow c nx ny)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s' src dst h1 h2) kk) Q) := by
  unfold cpF cpI LP
  iintro ⟨#HI, ⟨Hc, Hat⟩, HL, HO⟩ Hk
  ihave HL' := (stages_step (lS m c) (fun _ => iprop(emp)) k) $$ HL
  icases HL' with ⟨-, HL⟩
  iapply (wait_one m κ c hs k.val (cp_mem c) (dut_cp k) amt_cp ha nx ny (fun j _ => by rw [lvS_cp]; omega) (fun j _ => by rw [lvS_cp]; omega) (pay_cp m c k false)) $$ [Hc Hat HO]
  · isplitr; · iexact HI
    isplitl [Hc]; · iexact Hc
    isplitl [HO]; · iexact HO
    iexact Hat
  unfold cpPay
  rw [lcPt_halves c k (ym c)]
  iintro ⟨HO, Hat, Hr, ⟨⟨Hy, Hf⟩, Ha⟩⟩
  iapply Hk
  isplitl [Hat Hr Ha]
  · isplitl [Hat]; · iexact Hat
    isplitl [Hr]; · iexact Hr
    iexists _; iexact Ha
  isplitl [HL Hf]
  · iapply HL; unfold lS; iexact Hf
  isplitl [Hy]; · iexact Hy
  iexact HO

/-- The start of the local copy of chunk k. -/
theorem cp_start (k : Fin 16) {s' : DmaSem sig} (hs : s' = cpS) {dst : Memref sig .tc .hbm S2048x512 .bf16} (hdst : dst = lChunk k)
    {h1 : aM.view.WordExact} {h2 : dst.view.WordExact} {h3 : (DmaTarget.here dst : DmaTarget nD τ sig (.tc : Proc τ) .hbm S2048x512 .bf16).Typed .vmem (SemLoc.dma s')}
    {α : Type} {kk : PUnit → Prog (TpuEff nD τ sig (Elt F) Λ₀ .tc) α} {Q : α → sProp 𝕄} :
    iprop(Inv m κ ∗ atPos ER (cpC c) k.val ∅ 0 ∗ reached ER (cpC c) k.val ∗ aPt c (accv m c (ptOf k)) ∗ LU c k.val)
      ⊢ iprop(((cpF c k.val ∗ LU c (k.val + 1)) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma aM (.here dst) (.dma s') h1 h2 h3) kk) Q) := by
  subst hs hdst
  unfold cpF LU
  iintro ⟨#HI, Hat, Hr, Ha, HL⟩ Hk
  ihave HL' := (stages_step (fun _ => iprop(emp)) (lU c) k) $$ HL
  icases HL' with ⟨HU, HL⟩
  unfold lU
  icases HU with ⟨⟨%f, Hl⟩, Ht⟩
  iapply (Rounds.wp_copy_pointsTo 𝒱₀ ER (rd m) (c : Thread nD τ) none (src := aM) (dst := lChunk k) (sem := .dma cpS) (q := fullShare)
      (fs := accv m c (ptOf k)) (fd := f) (r := k.val) (d := false) (κ := κ (cpC c))
      (by rw [duties_tc, dut_cp]; exact Finset.mem_singleton_self _) () Nc rfl ((amount_tc m c _ _ _).trans amt_cp)
      (by rw [payload_tc, pay_cp]; unfold cpPay; exact sep_mono_left (Entails.of_eq (copy_l m c k f)))) $$ [Ha Hl Ht Hr]
  · isplitr; · iapply (Inv_at m κ (cp_mem c)); iexact HI
    isplitl [Ha]; · iexact Ha
    isplitl [Hl]; · iexact Hl
    isplitl [Ht]; · iexact Ht
    iexact Hr
  iintro Hc
  iapply Hk
  isplitl [Hc Hat]
  · isplitl [Hc] <;> iassumption
  iapply HL; iempintro

/-- The sending of a half of chunk k to the x neighbour. -/
theorem x_send (k : Fin 16) {sS sR : DmaSem sig} (hS : sS = xsS k) (hR : sR = xrS k) {d : Dev nD} (hd : d = xn c)
    {src dst : Memref sig .tc .hbm S1024x512 .bf16} (hsrc : src = lHalf k (ym c)) (hdst : dst = oHalf k (ym c)) {hsc : dst.view.ref.isScScratch = false}
    {h1 : src.view.WordExact} {h2 : dst.view.WordExact} {h3 : DmaTarget.Typed (nD := nD) (τ := τ) .hbm (SemLoc.dma sR) (.remote (Dev.tc d) dst (SemLoc.dma sS) hsc)}
    (ny : ℕ) {α : Type} {kk : PUnit → Prog (TpuEff nD τ sig (Elt F) Λ₀ .tc) α} {Q : α → sProp 𝕄} :
    iprop(Inv m κ ∗ X c k.val ∗ lPt c k (ym c) (lfin m c) ∗ ow c k.val ny)
      ⊢ iprop(((X c (k.val + 1) ∗ ow c (k.val + 1) ny) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.remote (Dev.tc d) dst (.dma sS) hsc) (.dma sR) h1 h2 h3) kk) Q) := by
  subst hS hR hd hsrc hdst
  unfold X ow
  iintro ⟨#HI, HX, Hl, ⟨%W, HO⟩⟩ Hk
  ihave HX' := (stages_step (xS c) (xU c) k) $$ HX
  icases HX' with ⟨HU, HX⟩
  unfold xU
  icases HU with ⟨Ht1, #Hr1, Ht2, #Hr2, ⟨%f, Ho⟩⟩
  iapply (Rounds.wp_send_pointsTo 𝒱₀ ER (rd m) (c : Thread nD τ) none (c' := (xn c : Thread nD τ)) (src := lHalf k (ym c)) (dst := oHalf k (ym c))
      (sS := .dma (xsS k)) (sem := .dma (xrS k)) (q := fullShare) (fs := lfin m c) (κ₁ := κ (xsC c k)) (κ₂ := κ (xrC (xn c) k))
      (r₁ := 0) (r₂ := 0) (d₁ := false) (d₂ := false) (fd := f)
      (by rw [duties_tc, dut_xs]; exact Finset.mem_singleton_self _) (by rw [duties_tc, dut_xr]; exact Finset.mem_singleton_self _)
      () () Nh rfl ((amount_tc m c _ _ _).trans (amt_xs k)) ((amount_tc m (xn c) _ _ _).trans (amt_xr k)) (owX c (k.val + 1) + owY c ny)
      (show owX c k.val + owY c ny = _ by rw [owX_step]; exact add_right_comm _ _ _) (W := W)
      (by rw [payload_tc, pay_xs]) (by rw [payload_tc, pay_xr]; exact Entails.of_eq (send_x m c k f))) $$ [Hl Ho HO Ht1 Ht2]
  · isplitr; · iapply (Inv_at m κ (xs_mem c k)); iexact HI
    isplitr; · iapply (Inv_at m κ (xr_mem (xn c) k)); iexact HI
    isplitl [Hl]; · iexact Hl
    isplitl [Ho]; · iexact Ho
    isplitl [HO]; · iexact HO
    isplitl [Ht1]; · iexact Ht1
    isplitr; · iexact Hr1
    isplitl [Ht2]; · iexact Ht2
    iexact Hr2
  iintro ⟨Hc, HO⟩
  iapply Hk
  isplitl [HX Hc]
  · iapply HX; unfold xS; iexact Hc
  iexists W; iexact HO

/-- The wait for chunk k's arrival from the x neighbour. -/
theorem y_wait (k : Fin 16) {s' : DmaSem sig} (hs : s' = xrS k) {sp sp' : Space} {sh sh' : Shape} {e e' : EltTy} {src : Memref sig .tc sp' sh' e'} {dst : Memref sig .tc sp sh e}
    {h1 : src.view.WordExact} {h2 : dst.view.WordExact} (ha : dst.view.dmaCredit = Nh) (nx ny : ℕ) (hnx : k.val < nx)
    {α : Type} {kk : PUnit → Prog (TpuEff nD τ sig (Elt F) Λ₀ .tc) α} {Q : α → sProp 𝕄} :
    iprop(Inv m κ ∗ Y c k.val ∗ ow c nx ny)
      ⊢ iprop(((yM m c k ∗ ow c nx ny) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s' src dst h1 h2) kk) Q) := by
  unfold yM
  iintro ⟨#HI, HY, HO⟩ Hk
  ihave HY' := (show Y c k.val ⊢ (iprop(yU c k ∗ (yS c k -∗ Y c (k.val + 1))) : sProp 𝕄) from stages_step (yS c) (yU c) k) $$ HY
  icases HY' with ⟨HU, HY⟩
  unfold yU
  icases HU with ⟨HT, Hc, Hat⟩
  iapply (wait_one m κ c hs 0 (xr_mem c k) (dut_xr k) (amt_xr k) ha nx ny (fun j hj => by rw [lvS_xr]; omega) (fun j _ => by rw [lvS_xr]; omega) (pay_xr m c k 0 false)) $$ [Hc Hat HO]
  · isplitr; · iexact HI
    isplitl [Hc]; · iexact Hc
    isplitl [HO]; · iexact HO
    iexact Hat
  iintro ⟨HO, Hat, -, Ho⟩
  iapply Hk
  isplitr [HO]
  · isplitl [HT]; · iexact HT
    isplitl [Hat]; · iexact Hat
    isplitl [Ho]; · iexact Ho
    iexact HY
  iexact HO

/-- The forwarding of chunk k to the y neighbour. -/
theorem y_send (k : Fin 16) {sS sR : DmaSem sig} (hS : sS = ysS k) (hR : sR = yrS k) {d : Dev nD} (hd : d = yn c)
    {src dst : Memref sig .tc .hbm S1024x512 .bf16} (hsrc : src = oHalf k (ym c)) (hdst : dst = oHalf k (ym c)) {hsc : dst.view.ref.isScScratch = false}
    {h1 : src.view.WordExact} {h2 : dst.view.WordExact} {h3 : DmaTarget.Typed (nD := nD) (τ := τ) .hbm (SemLoc.dma sR) (.remote (Dev.tc d) dst (SemLoc.dma sS) hsc)}
    (nx : ℕ) {α : Type} {kk : PUnit → Prog (TpuEff nD τ sig (Elt F) Λ₀ .tc) α} {Q : α → sProp 𝕄} :
    iprop(Inv m κ ∗ yM m c k ∗ ow c nx k.val)
      ⊢ iprop(((Y c (k.val + 1) ∗ ow c nx (k.val + 1)) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.remote (Dev.tc d) dst (.dma sS) hsc) (.dma sR) h1 h2 h3) kk) Q) := by
  subst hS hR hd hsrc hdst
  unfold ow yM yT
  iintro ⟨#HI, ⟨⟨Ht1, #Hr1, Ht2, #Hr2, ⟨%f, Ho⟩⟩, Hat, Hl, HY⟩, ⟨%W, HO⟩⟩ Hk
  iapply (Rounds.wp_send_pointsTo 𝒱₀ ER (rd m) (c : Thread nD τ) none (c' := (yn c : Thread nD τ)) (src := oHalf k (ym c)) (dst := oHalf k (ym c))
      (sS := .dma (ysS k)) (sem := .dma (yrS k)) (q := fullShare) (fs := ofin m c) (κ₁ := κ (ysC c k)) (κ₂ := κ (yrC (yn c) k))
      (r₁ := 0) (r₂ := 0) (d₁ := false) (d₂ := false) (fd := f)
      (by rw [duties_tc, dut_ys]; exact Finset.mem_singleton_self _) (by rw [duties_tc, dut_yr]; exact Finset.mem_singleton_self _)
      () () Nh rfl ((amount_tc m c _ _ _).trans (amt_ys k)) ((amount_tc m (yn c) _ _ _).trans (amt_yr k)) (owX c nx + owY c (k.val + 1))
      (show owX c nx + owY c k.val = _ by rw [owY_step]; exact (add_assoc _ _ _).symm) (W := W)
      (by rw [payload_tc, pay_ys]) (by rw [payload_tc, pay_yr]; exact Entails.of_eq (send_y m c k f))) $$ [Hl Ho HO Ht1 Ht2]
  · isplitr; · iapply (Inv_at m κ (ys_mem c k)); iexact HI
    isplitr; · iapply (Inv_at m κ (yr_mem (yn c) k)); iexact HI
    isplitl [Hl]; · iexact Hl
    isplitl [Ho]; · iexact Ho
    isplitl [HO]; · iexact HO
    isplitl [Ht1]; · iexact Ht1
    isplitr; · iexact Hr1
    isplitl [Ht2]; · iexact Ht2
    iexact Hr2
  iintro ⟨Hc, HO⟩
  iapply Hk
  isplitl [HY Hc Hat]
  · iapply HY; unfold yS
    isplitl [Hc] <;> iassumption
  iexists W; iexact HO

/-- The waits at the end, one of each family. -/
theorem xs_wait (k : Fin 16) {s' : DmaSem sig} (hs : s' = xsS k) {sp sp' : Space} {sh sh' : Shape} {e e' : EltTy} {src : Memref sig .tc sp' sh' e'} {dst : Memref sig .tc sp sh e}
    {h1 : src.view.WordExact} {h2 : dst.view.WordExact} (ha : dst.view.dmaCredit = Nh)
    {α : Type} {kk : PUnit → Prog (TpuEff nD τ sig (Elt F) Λ₀ .tc) α} {Q : α → sProp 𝕄} :
    iprop(Inv m κ ∗ XS m c k.val ∗ ow c 16 16)
      ⊢ iprop(((XS m c (k.val + 1) ∗ ow c 16 16) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s' src dst h1 h2) kk) Q) := by
  unfold XS
  iintro ⟨#HI, HY, HO⟩ Hk
  ihave HY' := (stages_step _ _ k) $$ HY
  icases HY' with ⟨⟨Hc, Hat⟩, HY⟩
  iapply (wait_one m κ c hs 0 (xs_mem c k) (dut_xs k) (amt_xs k) ha 16 16 (fun j hj => by omega) (fun j hj => by omega) (pay_xs m c k 0 false)) $$ [Hc Hat HO]
  · isplitr; · iexact HI
    isplitl [Hc]; · iexact Hc
    isplitl [HO]; · iexact HO
    iexact Hat
  iintro ⟨HO, Hat, -, Ho⟩
  iapply Hk
  isplitr [HO]
  · iapply HY
    isplitl [Hat] <;> iassumption
  iexact HO
theorem ys_wait (k : Fin 16) {s' : DmaSem sig} (hs : s' = ysS k) {sp sp' : Space} {sh sh' : Shape} {e e' : EltTy} {src : Memref sig .tc sp' sh' e'} {dst : Memref sig .tc sp sh e}
    {h1 : src.view.WordExact} {h2 : dst.view.WordExact} (ha : dst.view.dmaCredit = Nh)
    {α : Type} {kk : PUnit → Prog (TpuEff nD τ sig (Elt F) Λ₀ .tc) α} {Q : α → sProp 𝕄} :
    iprop(Inv m κ ∗ YS m c k.val ∗ ow c 16 16)
      ⊢ iprop(((YS m c (k.val + 1) ∗ ow c 16 16) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s' src dst h1 h2) kk) Q) := by
  unfold YS
  iintro ⟨#HI, HY, HO⟩ Hk
  ihave HY' := (stages_step _ _ k) $$ HY
  icases HY' with ⟨⟨Hc, Hat⟩, HY⟩
  iapply (wait_one m κ c hs 0 (ys_mem c k) (dut_ys k) (amt_ys k) ha 16 16 (fun j hj => by omega) (fun j hj => by omega) (pay_ys m c k 0 false)) $$ [Hc Hat HO]
  · isplitr; · iexact HI
    isplitl [Hc]; · iexact Hc
    isplitl [HO]; · iexact HO
    iexact Hat
  iintro ⟨HO, Hat, -, Ho⟩
  iapply Hk
  isplitr [HO]
  · iapply HY
    isplitl [Hat] <;> iassumption
  iexact HO
theorem yr_wait (k : Fin 16) {s' : DmaSem sig} (hs : s' = yrS k) {sp sp' : Space} {sh sh' : Shape} {e e' : EltTy} {src : Memref sig .tc sp' sh' e'} {dst : Memref sig .tc sp sh e}
    {h1 : src.view.WordExact} {h2 : dst.view.WordExact} (ha : dst.view.dmaCredit = Nh)
    {α : Type} {kk : PUnit → Prog (TpuEff nD τ sig (Elt F) Λ₀ .tc) α} {Q : α → sProp 𝕄} :
    iprop(Inv m κ ∗ YR m c k.val ∗ ow c 16 16)
      ⊢ iprop(((YR m c (k.val + 1) ∗ ow c 16 16) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s' src dst h1 h2) kk) Q) := by
  unfold YR
  iintro ⟨#HI, HY, HO⟩ Hk
  ihave HY' := (stages_step _ _ k) $$ HY
  icases HY' with ⟨⟨Hc, Hat⟩, HY⟩
  iapply (wait_one m κ c hs 0 (yr_mem c k) (dut_yr k) (amt_yr k) ha 16 16 (fun j hj => by omega) (fun j hj => by omega) (pay_yr m c k 0 false)) $$ [Hc Hat HO]
  · isplitr; · iexact HI
    isplitl [Hc]; · iexact Hc
    isplitl [HO]; · iexact HO
    iexact Hat
  iintro ⟨HO, Hat, -, Ho⟩
  iapply Hk
  isplitr [HO]
  · iapply HY
    isplitl [Hat] <;> iassumption
  iexact HO

/-! ## The barrier -/

/-- Tokens of the sends to the x neighbour before its halves are here. -/
def xT0 (c : Dev nD) (k : Fin 16) : sProp 𝕄 := iprop(dutyTok ER (xsC c k) 0 false ∗ reached ER (xsC c k) 0 ∗ dutyTok ER (xrC (xn c) k) 0 false)
/-- Tokens of the sends to the y neighbour before its halves are here, and the means to wait for the x arrivals. -/
def yT0 (c : Dev nD) (k : Fin 16) : sProp 𝕄 :=
  iprop(dutyTok ER (ysC c k) 0 false ∗ reached ER (ysC c k) 0 ∗ dutyTok ER (yrC (yn c) k) 0 false ∗ cred (tallyAt (xrC c k) () Nh) ∗ atPos ER (xrC c k) 0 ∅ 0)

/-- What a device has for the barrier: its own position and credit, the right to signal both neighbours, and the halves it gives them. -/
def barPre (c : Dev nD) : sProp 𝕄 :=
  iprop(atPos ER (barC c) 0 ∅ 0 ∗ cred (tallyAt (barC c) () 2)
    ∗ (reached ER (barC (xn c)) 0 ∗ dutyTok ER (barC (xn c)) 0 false)
    ∗ (reached ER (barC (yn c)) 0 ∗ dutyTok ER (barC (yn c)) 0 true)
    ∗ ((bigSep Finset.univ fun k : Fin 16 => iprop(∃ f, oPt c k (ym c) f)) ∗ bigSep Finset.univ fun k : Fin 16 => reached ER (xrC c k) 0)
    ∗ ((bigSep Finset.univ fun k : Fin 16 => iprop(∃ f, oPt c k (flip (ym c)) f)) ∗ bigSep Finset.univ fun k : Fin 16 => reached ER (yrC c k) 0)
    ∗ (bigSep Finset.univ (xT0 c)) ∗ bigSep Finset.univ (yT0 c))
/-- What a device owes before the barrier. -/
def O₀ (c : Dev nD) : CellTallies nD τ sig Unit := owX c 0 + owY c 0 + tallyAt (barC (yn c)) () 1 + tallyAt (barC (xn c)) () 1

theorem barX_intro (c : Dev nD) :
    iprop((bigSep Finset.univ fun k : Fin 16 => iprop(∃ f, oPt c k (ym c) f)) ∗ bigSep Finset.univ fun k : Fin 16 => reached ER (xrC c k) 0) ⊢ (barX (xn c) : sProp 𝕄) := by
  unfold barX; rw [xn_xn, ym_xn]
theorem barY_intro (c : Dev nD) :
    iprop((bigSep Finset.univ fun k : Fin 16 => iprop(∃ f, oPt c k (flip (ym c)) f)) ∗ bigSep Finset.univ fun k : Fin 16 => reached ER (yrC c k) 0) ⊢ (barY (yn c) : sProp 𝕄) := by
  unfold barY; rw [yn_yn, ym_yn]
theorem X_intro (c : Dev nD) : iprop(bigSep Finset.univ (xT0 c) ∗ barX c) ⊢ (X c 0 : sProp 𝕄) := by
  unfold X barX
  rw [stages_zero, ← bigSep_sep', ← bigSep_sep']
  refine bigSep_mono fun k _ => (show iprop(xT0 c k ∗ (∃ f, oPt (xn c) k (ym c) f) ∗ reached ER (xrC (xn c) k) 0) ⊢ (xU c k : sProp 𝕄) from ?_)
  unfold xT0 xU
  iintro ⟨⟨H1, H2, H3⟩, H4, H5⟩
  isplitl [H1]; · iexact H1
  isplitl [H2]; · iexact H2
  isplitl [H3]; · iexact H3
  isplitl [H5]; · iexact H5
  iexact H4
theorem Y_intro (c : Dev nD) : iprop(bigSep Finset.univ (yT0 c) ∗ barY c) ⊢ (Y c 0 : sProp 𝕄) := by
  unfold Y barY
  rw [stages_zero, ← bigSep_sep', ← bigSep_sep']
  refine bigSep_mono fun k _ => (show iprop(yT0 c k ∗ (∃ f, oPt (yn c) k (ym c) f) ∗ reached ER (yrC (yn c) k) 0) ⊢ (yU c k : sProp 𝕄) from ?_)
  unfold yT0 yU yT
  iintro ⟨⟨H1, H2, H3, H6, H7⟩, H4, H5⟩
  isplitr [H6 H7]
  · isplitl [H1]; · iexact H1
    isplitl [H2]; · iexact H2
    isplitl [H3]; · iexact H3
    isplitl [H5]; · iexact H5
    iexact H4
  isplitl [H6] <;> iassumption

/-- The barrier: both neighbours signalled with the halves they send into, and their halves received. -/
theorem bar_step {s : Sem sig} (hs : s = barS) {d1 d2 : Dev nD} (h1 : d1 = xn c) (h2 : d2 = yn c) {n1 n2 n3 : ℕ} (hn1 : n1 = 1) (hn2 : n2 = 1) (hn3 : n3 = 2)
    {α : Type} {kk : PUnit → Prog (TpuEff nD τ sig (Elt F) Λ₀ .tc) α} {Q : α → sProp 𝕄} :
    iprop(Inv m κ ∗ barPre c ∗ ∃ W, owes (c : Thread nD τ) (O₀ c) W)
      ⊢ iprop(((X c 0 ∗ Y c 0 ∗ ow c 0 0 ∗ atPos ER (barC c) 1 ∅ 0) -∗ wp frame (wpE (defs₀ (F := F)) 𝒱₀ (c : Thread nD τ) none) Set.univ (kk ⟨⟩) Q)
        -∗ wp frame (wpE (defs₀ (F := F)) 𝒱₀ (c : Thread nD τ) none) Set.univ
          (.op (.semSignal (Dev.tc d1) s n1) fun _ => .op (.semSignal (Dev.tc d2) s n2) fun _ => .op (.semWait s n3) kk) Q) := by
  subst hs h1 h2 hn1 hn2 hn3
  unfold barPre
  iintro ⟨#HI, ⟨HatB, HcB, ⟨#Hrx, Htx⟩, ⟨#Hry, Hty⟩, Hox, Hoy, Hx, Hy⟩, ⟨%W, HO⟩⟩ Hk
  iapply (Rounds.wp_signal 𝒱₀ ER (rd m) (c : Thread nD τ) none (dst := (xn c : Thread nD τ)) (sem := barS) (r := 0) (d := false) (κ := κ (barC (xn c)))
      (by rw [duties_tc]; decide) rfl () (owX c 0 + owY c 0 + tallyAt (barC (yn c)) () 1) rfl) $$ [HO Htx Hox]
  · isplitr; · iapply (Inv_at m κ (bar_mem (xn c))); iexact HI
    isplitl [HO]; · iexact HO
    isplitl [Htx]; · iexact Htx
    isplitl [Hox]
    · rw [show (rd (F := F) m).payload (barC (xn c)) 0 false = barX (xn c) from rfl]; iapply (barX_intro c); iexact Hox
    iexact Hrx
  iintro HO
  iapply (Rounds.wp_signal 𝒱₀ ER (rd m) (c : Thread nD τ) none (dst := (yn c : Thread nD τ)) (sem := barS) (r := 0) (d := true) (κ := κ (barC (yn c)))
      (by rw [duties_tc]; decide) rfl () (owX c 0 + owY c 0) rfl) $$ [HO Hty Hoy]
  · isplitr; · iapply (Inv_at m κ (bar_mem (yn c))); iexact HI
    isplitl [HO]; · iexact HO
    isplitl [Hty]; · iexact Hty
    isplitl [Hoy]
    · rw [show (rd (F := F) m).payload (barC (yn c)) 0 true = barY (yn c) from rfl]; iapply (barY_intro c); iexact Hoy
    iexact Hry
  iintro HO
  iapply (Rounds.wp_wait_rest_token 𝒱₀ ER (rd m) (c : Thread nD τ) none (κ := κ (barC c))
      (wpE_semWait_eq 𝒱₀ (c : Thread nD τ) none Set.univ) (Set.mem_univ _) () (O := owX c 0 + owY c 0) (W := W) (R := 0) (m := 0) (T := ∅)
      ((Nat.zero_add 2).trans (expect_bar m c).symm)) $$ [HcB HO HatB]
  · isplitr; · iapply (Inv_at m κ (bar_mem c)); iexact HI
    isplitl [HcB]; · iexact HcB
    isplitl [HO]; · iexact HO
    isplitr
    · iapply (mayWait c _ 0 0 (fun k _ => by show 1 < _; omega) (fun k _ => by show 1 < _; omega)); iapply (Inv_lev m κ); iexact HI
    iexact HatB
  iintro ⟨HO, HatB, -, Hpay⟩
  ihave Hp := (Entails.of_eq (rest_bar m c)) $$ Hpay
  icases Hp with ⟨HbX, HbY⟩
  iapply Hk
  isplitl [Hx HbX]
  · iapply (X_intro c); isplitl [Hx] <;> iassumption
  isplitl [Hy HbY]
  · iapply (Y_intro c); isplitl [Hy] <;> iassumption
  isplitl [HO]
  · unfold ow; iexists _; iexact HO
  iexact HatB

end Cert.KernelIdeal.Proof

end
-- ==== Proof.Body.lean ====
/-
  The body of the exchange kernel at one grid point, up to its last point's waits: the barrier at the first point, the sending of
  the chunk finished at the point before, the forwarding of the chunk received three points before, and the product of the point's chunk.
-/
module

public import proofs.«01_k».proof.Proof.Steps
public import Idealize.ShloMosaic.Lib.VecWindow

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds between points -/

/-- The means for the waits at the end, held throughout. -/
def Cst (c : Dev nD) : sProp 𝕄 :=
  iprop((bigSep Finset.univ fun k : Fin 16 => atPos ER (xsC c k) 0 ∅ 0) ∗ (bigSep Finset.univ fun k : Fin 16 => atPos ER (ysC c k) 0 ∅ 0)
    ∗ bigSep Finset.univ fun k : Fin 16 => iprop(cred (tallyAt (yrC c k) () Nh) ∗ atPos ER (yrC c k) 0 ∅ 0))
/-- Before the first point. -/
def Start (c : Dev nD) : sProp 𝕄 := iprop(barPre c ∗ cpI c 0 ∗ LP m c 0 ∗ LU c 0 ∗ Cst c ∗ ∃ W, owes (c : Thread nD τ) (O₀ c) W)
/-- After point n: the copy of chunk n runs, n chunks are sent to the x neighbour and n - 2 forwarded to the y neighbour. -/
def Post (c : Dev nD) (n : ℕ) : sProp 𝕄 :=
  iprop(cpF c n ∗ X c n ∗ Y c (n - 2) ∗ LP m c n ∗ LU c (n + 1) ∗ atPos ER (barC c) 1 ∅ 0 ∗ Cst c ∗ ow c n (n - 2))

variable (κ : GSem nD τ sig → ℕ) (c : Dev nD)

/-- The scratch holds what was stored into it. -/
theorem acc_write (f w : S2048x512.Idx → Elt F .bf16) (inb : ∀ a, ![0, 0] a + ![2048, 512] a ≤ S2048x512.size a) :
    (aM.access (Rect.unit (s := S2048x512) ![0, 0] ![2048, 512] inb) : View sig .tc _ _ _).write (Elt F) f w Finset.univ = w :=
  Memref.write_access_unit_zero_univ (Elt F) cc0_scratch0 (funext fun a => by fin_cases a <;> rfl) _ f w

/-- The product of the point's chunk, and the start of its copy. -/
theorem compute (t : Fin grid0.N) (arg1 : Memref sig .tc .vmem S2048x4096 .f32) (arg2 : Memref sig .tc .vmem S4096x512 .f32)
    {s' : DmaSem sig} (hs : s' = cpS) {dst : Memref sig .tc .hbm S2048x512 .bf16} (hdst : dst = lChunk (pt16 t))
    {l1 l2 l3 l4} {l5} {h1 : aM.view.WordExact} {h2 : dst.view.WordExact} {h3 : (DmaTarget.here dst : DmaTarget nD τ sig (.tc : Proc τ) .hbm S2048x512 .bf16).Typed .vmem (SemLoc.dma s')}
    {α : Type} {kk : PUnit → Prog (TpuEff nD τ sig (Elt F) Λ₀ .tc) α} {Q : α → sProp 𝕄} :
    iprop(Inv m κ ∗ owns (c : Thread nD τ) arg1 fullShare (xin m c) ∗ owns (c : Thread nD τ) arg2 fullShare (wblk m c t) ∗ cpI c t.val ∗ LU c t.val)
      ⊢ iprop(((owns (c : Thread nD τ) arg1 fullShare (xin m c) ∗ owns (c : Thread nD τ) arg2 fullShare (wblk m c t) ∗ cpF c t.val ∗ LU c (t.val + 1))
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.load arg1 (Rect.unit ![0, 0] ![2048, 4096] inb_S2048x4096_S2048x4096_0_0).toLoadRect l1) fun v18 =>
           .op (.load arg2 (Rect.unit ![0, 0] ![4096, 512] inb_S4096x512_S4096x512_0_0).toLoadRect l2) fun v20 =>
           .op (.load aM (Rect.unit ![0, 0] ![2048, 512] inb_S2048x512_S2048x512_0_0).toLoadRect l3) fun _ =>
           .op (.store aM (Rect.unit ![0, 0] ![2048, 512] inb_S2048x512_S2048x512_0_0) (k0_pay1 v18 v20) Finset.univ l4 l5) fun _ =>
           .op (.enqueueDma aM (.here dst) (.dma s') h1 h2 h3) kk) Q) := by
  unfold cpI owns
  iintro ⟨#HI, ⟨%f1, %e1, H1⟩, ⟨%f2, %e2, H2⟩, ⟨Hat, Hr, ⟨%f, Ha⟩⟩, HL⟩ Hk
  iapply (wp_load 𝒱₀ (c : Thread nD τ) none Set.univ (m := arg1) (View.setOn_subset_set _ _)) $$ H1
  iintro H1
  iapply (wp_load 𝒱₀ (c : Thread nD τ) none Set.univ (m := arg2) (View.setOn_subset_set _ _)) $$ H2
  iintro H2
  iapply (wp_load 𝒱₀ (c : Thread nD τ) none Set.univ (m := aM) (View.setOn_subset_set _ _)) $$ Ha
  iintro Ha
  iapply (wp_store 𝒱₀ (c : Thread nD τ) none Set.univ (m := aM) (r := Rect.unit ![0, 0] ![2048, 512] inb_S2048x512_S2048x512_0_0) (Mk := Finset.univ)
    (by rw [show aM.view.set = Finset.univ from View.set_whole _]; exact Finset.subset_univ _)) $$ Ha
  iintro Ha
  rw [acc_write, show arg1.view.readAt (Elt F) (Rect.unit ![0, 0] ![2048, 4096] inb_S2048x4096_S2048x4096_0_0).toLoadRect f1 = xin m c from
      (View.readAt_full _ _ _).trans e1,
    show arg2.view.readAt (Elt F) (Rect.unit ![0, 0] ![4096, 512] inb_S4096x512_S4096x512_0_0).toLoadRect f2 = wblk m c t from
      (View.readAt_full _ _ _).trans e2]
  iapply (cp_start m κ c (pt16 t) hs hdst) $$ [Hat Hr Ha HL]
  · isplitr; · iexact HI
    isplitl [Hat]; · iexact Hat
    isplitl [Hr]; · iexact Hr
    isplitl [Ha]; · rw [ptOf_pt16]; iexact Ha
    iexact HL
  iintro ⟨HF, HL⟩
  iapply Hk
  isplitl [H1]; · iexists f1; isplitr; · ipureintro; exact e1
                  iexact H1
  isplitl [H2]; · iexists f2; isplitr; · ipureintro; exact e2
                  iexact H2
  isplitl [HF]; · iexact HF
  iexact HL

/-- The first point: the barrier, then the first product. -/
theorem run_first (t : Fin grid0.N) (ht : t.val = 0) (arg1 : Memref sig .tc .vmem S2048x4096 .f32) (harg1 : arg1.IsWhole) (arg2 : Memref sig .tc .vmem S4096x512 .f32) (harg2 : arg2.IsWhole)
    (h3 h4 h5) (Kt : _ → sProp 𝕄) :
    iprop(Inv m κ ∗ Start m c ∗ owns (c : Thread nD τ) arg1 fullShare (xin m c) ∗ owns (c : Thread nD τ) arg2 fullShare (wblk m c t))
      ⊢ iprop((∀ r, ⌜r.1 = c⌝ -∗ (Post m c t.val ∗ owns (c : Thread nD τ) arg1 fullShare (xin m c) ∗ owns (c : Thread nD τ) arg2 fullShare (wblk m c t)) -∗ Kt r)
        -∗ wp frame (wpE (defs₀ (F := F)) 𝒱₀ (c : Thread nD τ) none) Set.univ
          (k0_part16 (grid0.coords t) arg1 harg1 arg2 harg2 lM h3 oM h4 aM h5 cc0_scratch1 cc0_scratch2 cc0_scratch3 cc0_scratch4 cc0_scratch5) Kt) := by
  have h0 : t = ptOf 0 := Fin.ext ht
  subst h0
  rw [show (ptOf 0).val = 0 from rfl, k0_part16_eq_skeleton]
  unfold k0_part16_skel
  simp only [semSignalWord, semWaitWord, Prog.lift, Prog.bind_op, Prog.bind_ret, Prog.pure_eq_ret, wp_deviceId]
  rw [dif_pos ((cond1_iff _).mpr ht), dif_neg (fun h => by have := (cond2_iff _).mp h; omega), dif_neg (fun h => by have := (cond3_iff _).mp h; omega)]
  unfold Start Post
  iintro ⟨#HI, ⟨HB, HcI, HLP, HLU, HC, HO⟩, H1, H2⟩ Hk
  iapply (bar_step m κ c (by decide) (dev1_eq c _) (dev2_eq c _) (by decide) (by decide) (by decide)) $$ [HB HO]
  · isplitr; · iexact HI
    isplitl [HB] <;> iassumption
  iintro ⟨HX, HY, HO, HatB⟩
  iapply (compute m κ c (ptOf 0) arg1 arg2 cp_eq (lchunk_eq (off6_eq _) _)) $$ [HcI HLU H1 H2]
  · isplitr; · iexact HI
    isplitl [H1]; · iexact H1
    isplitl [H2]; · iexact H2
    isplitl [HcI]; · iexact HcI
    iexact HLU
  iintro ⟨H1, H2, HcF, HLU⟩
  rw [wp_ret]
  imodintro
  iapply Hk
  · ipureintro; rfl
  isplitr [H1 H2]
  · isplitl [HcF]; · iexact HcF
    isplitl [HX]; · iexact HX
    isplitl [HY]; · iexact HY
    isplitl [HLP]; · iexact HLP
    isplitl [HLU]; · iexact HLU
    isplitl [HatB]; · iexact HatB
    isplitl [HC]; · iexact HC
    iexact HO
  isplitl [H1] <;> iassumption

/-- What the first part of the body is called with and leaves at the later points. -/
theorem run_next (t : Fin grid0.N) (ht : 1 ≤ t.val) (arg1 : Memref sig .tc .vmem S2048x4096 .f32) (harg1 : arg1.IsWhole) (arg2 : Memref sig .tc .vmem S4096x512 .f32) (harg2 : arg2.IsWhole)
    (h3 h4 h5) (Kt : _ → sProp 𝕄) :
    iprop(Inv m κ ∗ Post m c (t.val - 1) ∗ owns (c : Thread nD τ) arg1 fullShare (xin m c) ∗ owns (c : Thread nD τ) arg2 fullShare (wblk m c t))
      ⊢ iprop((∀ r, ⌜r.1 = c⌝ -∗ (Post m c t.val ∗ owns (c : Thread nD τ) arg1 fullShare (xin m c) ∗ owns (c : Thread nD τ) arg2 fullShare (wblk m c t)) -∗ Kt r)
        -∗ wp frame (wpE (defs₀ (F := F)) 𝒱₀ (c : Thread nD τ) none) Set.univ
          (k0_part16 (grid0.coords t) arg1 harg1 arg2 harg2 lM h3 oM h4 aM h5 cc0_scratch1 cc0_scratch2 cc0_scratch3 cc0_scratch4 cc0_scratch5) Kt) := by
  obtain ⟨n, hn⟩ : ∃ n, t.val = n + 1 := ⟨t.val - 1, by omega⟩
  have hb : (back t 1).val = n := by show t.val - 1 = n; omega
  rw [show t.val - 1 = n by omega, k0_part16_eq_skeleton]
  unfold k0_part16_skel
  simp only [semSignalWord, semWaitWord, Prog.lift, Prog.bind_op, Prog.bind_ret, Prog.pure_eq_ret, wp_deviceId]
  unfold Post
  rw [dif_neg (fun h => by have := (cond1_iff _).mp h; omega), dif_pos ((cond2_iff _).mpr ht)]
  iintro ⟨#HI, ⟨HcF, HX, HY, HLP, HLU, HatB, HC, HO⟩, H1, H2⟩ Hk
  rw [← hb]
  iapply (cp_wait m κ c (back t 1) cp_eq (by rfl) _ _) $$ [HcF HLP HO]
  · isplitr; · iexact HI
    isplitl [HcF]; · iexact HcF
    isplitl [HLP] <;> iassumption
  iintro ⟨HcI, HLP, Hl, HO⟩
  iapply (x_send m κ c (back t 1) (xs_eq (off2_eq t ht) _) (xr_eq (off2_eq t ht) _) (dev3_eq c _) (lslice_eq (off3_eq t ht c) _) (oslice_eq (off3_eq t ht c) _) _) $$ [HX Hl HO]
  · isplitr; · iexact HI
    isplitl [HX]; · iexact HX
    isplitl [Hl] <;> iassumption
  iintro ⟨HX, HO⟩
  rw [show (back t 1).val + 1 = t.val by rw [hb, hn]]
  by_cases h3 : 3 ≤ t.val
  · have hb3 : (back t 1).val - 2 = (back t 3).val := by show t.val - 1 - 2 = t.val - 3; omega
    have hs3 : t.val - 2 = (back t 3).val + 1 := by show t.val - 2 = t.val - 3 + 1; omega
    rw [dif_pos ((cond3_iff _).mpr h3), hb3, hs3]
    iapply (y_wait m κ c (back t 3) (xr_eq (off4_eq t h3) _) (by rfl) _ _ (by show t.val - 3 < t.val; omega)) $$ [HY HO]
    · isplitr; · iexact HI
      isplitl [HY] <;> iassumption
    iintro ⟨HY, HO⟩
    iapply (y_send m κ c (back t 3) (ys_eq (off4_eq t h3) _) (yr_eq (off4_eq t h3) _) (dev4_eq c _) (oslice_eq (off5_eq t h3 c) _) (oslice_eq (off5_eq t h3 c) _) _) $$ [HY HO]
    · isplitr; · iexact HI
      isplitl [HY] <;> iassumption
    iintro ⟨HY, HO⟩
    iapply (compute m κ c t arg1 arg2 cp_eq (lchunk_eq (off6_eq _) _)) $$ [HcI HLU H1 H2]
    · isplitr; · iexact HI
      isplitl [H1]; · iexact H1
      isplitl [H2]; · iexact H2
      isplitl [HcI] <;> iassumption
    iintro ⟨H1, H2, HcF, HLU⟩
    rw [wp_ret]
    imodintro
    iapply Hk
    · ipureintro; rfl
    isplitr [H1 H2]
    · isplitl [HcF]; · iexact HcF
      isplitl [HX]; · iexact HX
      isplitl [HY]; · iexact HY
      isplitl [HLP]; · iexact HLP
      isplitl [HLU]; · iexact HLU
      isplitl [HatB]; · iexact HatB
      isplitl [HC]; · iexact HC
      iexact HO
    isplitl [H1] <;> iassumption
  · rw [dif_neg (fun h => h3 ((cond3_iff _).mp h)), show (back t 1).val - 2 = 0 by show t.val - 1 - 2 = 0; omega, show t.val - 2 = 0 by omega]
    iapply (compute m κ c t arg1 arg2 cp_eq (lchunk_eq (off6_eq _) _)) $$ [HcI HLU H1 H2]
    · isplitr; · iexact HI
      isplitl [H1]; · iexact H1
      isplitl [H2]; · iexact H2
      isplitl [HcI] <;> iassumption
    iintro ⟨H1, H2, HcF, HLU⟩
    rw [wp_ret]
    imodintro
    iapply Hk
    · ipureintro; rfl
    isplitr [H1 H2]
    · isplitl [HcF]; · iexact HcF
      isplitl [HX]; · iexact HX
      isplitl [HY]; · iexact HY
      isplitl [HLP]; · iexact HLP
      isplitl [HLU]; · iexact HLU
      isplitl [HatB]; · iexact HatB
      isplitl [HC]; · iexact HC
      iexact HO
    isplitl [H1] <;> iassumption

end Cert.KernelIdeal.Proof

end
-- ==== Proof.Tail.lean ====
/-
  The exchange kernel's last point after its product: the last chunk sent, the last three forwarded, every transfer waited for, and
  the semaphores closed.
-/
module

public import proofs.«01_k».proof.Proof.Body
public import Idealize.ShloMosaic.Lib.Rounds.Family
public import Idealize.ShloMosaic.Lib.Pipeline.Launch

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## The waits -/

/-- After the waits for n chunks: n of each family are done. -/
def Wt (n : ℕ) : sProp 𝕄 := iprop(YR m c n ∗ XS m c n ∗ YS m c n ∗ ow c 16 16)

/-- The three waits for chunk k: its other half has come from the y neighbour, and both sendings are over. -/
theorem tail_round (k : Fin 16) {s1 s2 s3 : DmaSem sig} (hs1 : s1 = yrS k) (hs2 : s2 = xsS k) (hs3 : s3 = ysS k)
    {p1 p2 p3 q1 q2 q3 : Space} {a1 a2 a3 b1 b2 b3 : Shape} {e1 e2 e3 g1 g2 g3 : EltTy}
    {r1 : Memref sig .tc p1 a1 e1} {d1 : Memref sig .tc q1 b1 g1} {r2 : Memref sig .tc p2 a2 e2} {d2 : Memref sig .tc q2 b2 g2}
    {r3 : Memref sig .tc p3 a3 e3} {d3 : Memref sig .tc q3 b3 g3}
    {w1 : r1.view.WordExact} {x1 : d1.view.WordExact} {w2 : r2.view.WordExact} {x2 : d2.view.WordExact} {w3 : r3.view.WordExact} {x3 : d3.view.WordExact}
    (h1 : d1.view.dmaCredit = Nh) (h2 : d2.view.dmaCredit = Nh) (h3 : d3.view.dmaCredit = Nh)
    {α : Type} {kk : PUnit → Prog (TpuEff nD τ sig (Elt F) Λ₀ .tc) α} {Q : α → sProp 𝕄} :
    iprop(Inv m κ ∗ Wt m c k.val)
      ⊢ iprop((Wt m c (k.val + 1) -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 s1 r1 d1 w1 x1) fun _ => .op (.waitDma2 s2 r2 d2 w2 x2) fun _ => .op (.waitDma2 s3 r3 d3 w3 x3) kk) Q) := by
  unfold Wt
  iintro ⟨#HI, Hyr, Hxs, Hys, HO⟩ Hk
  iapply (yr_wait m κ c k hs1 h1) $$ [Hyr HO]
  · isplitr; · iexact HI
    isplitl [Hyr] <;> iassumption
  iintro ⟨Hyr, HO⟩
  iapply (xs_wait m κ c k hs2 h2) $$ [Hxs HO]
  · isplitr; · iexact HI
    isplitl [Hxs] <;> iassumption
  iintro ⟨Hxs, HO⟩
  iapply (ys_wait m κ c k hs3 h3) $$ [Hys HO]
  · isplitr; · iexact HI
    isplitl [Hys] <;> iassumption
  iintro ⟨Hys, HO⟩
  iapply Hk
  isplitl [Hyr]; · iexact Hyr
  isplitl [Hxs]; · iexact Hxs
  isplitl [Hys] <;> iassumption

/-- The waits' means, from what the sendings left and what was held throughout. -/
theorem Wt_intro : iprop(X c 16 ∗ Y c 16 ∗ Cst c ∗ ow c 16 16) ⊢ (iprop(Wt m c 0 ∗ bigSep Finset.univ fun k : Fin 16 => atPos ER (xrC c k) 1 ∅ 0) : sProp 𝕄) := by
  unfold X Y Cst Wt YR XS YS
  rw [show (yS c : Fin 16 → sProp 𝕄) = fun k => iprop(cred (tallyAt (ysC c k) () Nh) ∗ atPos ER (xrC c k) 1 ∅ 0) from rfl,
    show (xS c : Fin 16 → sProp 𝕄) = fun k => cred (tallyAt (xsC c k) () Nh) from rfl]
  simp only [stages_end, stages_zero, bigSep_sep']
  iintro ⟨HX, ⟨HY, Hr⟩, ⟨H1, H2, H3⟩, HO⟩
  isplitr [Hr]
  · isplitl [H3]; · iexact H3
    isplitl [HX H1]; · isplitl [HX] <;> iassumption
    isplitl [HY H2]; · isplitl [HY] <;> iassumption
    iexact HO
  iexact Hr

/-! ## The end -/

/-- What the exchange leaves: every semaphore at zero, the product and the exchanged halves, and the scratch. -/
def Final : sProp 𝕄 :=
  iprop(semVal (barC c) 0 ∗ Pipeline.ownSems0 osem c ∗ ((lM.view.loc (c : Thread nD τ)) ↦{fullShare} lfin m c) ∗ ((oM.view.loc (c : Thread nD τ)) ↦{fullShare} ofin m c)
    ∗ ∃ f, aPt c f)

/-- Two things over the column halves, from either half on. -/
theorem pair2 (y : Fin 2) (Φ : Fin 2 → sProp 𝕄) : bigSep Finset.univ Φ = iprop(Φ y ∗ Φ (flip y)) := by
  match y with
  | 0 => exact BI.bigSep_fin_two Φ
  | 1 =>
    refine (BI.bigSep_fin_two Φ).trans (BI.equiv_iff.mp ⟨?_, ?_⟩)
    · refine (show (iprop(Φ 0 ∗ Φ 1) : sProp 𝕄) ⊢ iprop(Φ 1 ∗ Φ 0) from ?_)
      iintro ⟨H1, H2⟩; isplitl [H2] <;> iassumption
    · refine (show (iprop(Φ 1 ∗ Φ 0) : sProp 𝕄) ⊢ iprop(Φ 0 ∗ Φ 1) from ?_)
      iintro ⟨H1, H2⟩; isplitl [H2] <;> iassumption

/-- A family of sixteen receive or send cells closes. -/
theorem close_fam (f : Fin 4) : iprop(Inv m κ ∗ bigSep Finset.univ fun k : Fin 16 => atPos ER ((c : Thread nD τ), SemLoc.dma (famS f k)) 1 ∅ 0)
    ⊢ (|={Set.univ}=> bigSep Finset.univ fun k : Fin 16 => semVal ((c : Thread nD τ), SemLoc.dma (famS f k)) 0 : sProp 𝕄) :=
  (BI.bigSep_with_persistent (Ψ := fun k : Fin 16 => iprop(cellInv ER (rd m) (κ ((c : Thread nD τ), SemLoc.dma (famS f k))) ((c : Thread nD τ), SemLoc.dma (famS f k)) ∗ atPos ER ((c : Thread nD τ), SemLoc.dma (famS f k)) 1 ∅ 0))
    fun k _ => sep_mono_left (Inv_at m κ (own_mem c (.inr (f, k))))).trans
  (Rounds.cells_close ER (rd m) Finset.univ (fun k : Fin 16 => ((c : Thread nD τ), SemLoc.dma (famS f k))) (fun k => κ ((c : Thread nD τ), SemLoc.dma (famS f k)))
    (fun _ _ => Set.mem_univ _) (fun _ _ => id) (fun _ => 1) (fun k _ r hr => by
      rw [duties_tc]
      refine dut_later _ (fun h => ?_) r hr
      have h3 : (famS f k).val = (cpS : DmaSem sig).val := by rw [SemLoc.dma.inj h]
      rw [famS_val, show (cpS : DmaSem sig).val = 3 from rfl] at h3
      omega))

/-- The kernel's own semaphores at zero, family by family. -/
theorem ownSems_eq : (Pipeline.ownSems0 osem c : sProp 𝕄)
    = iprop(semVal (cpC c) 0 ∗ (bigSep Finset.univ fun k : Fin 16 => semVal ((c : Thread nD τ), SemLoc.dma (famS 0 k)) 0)
        ∗ (bigSep Finset.univ fun k : Fin 16 => semVal ((c : Thread nD τ), SemLoc.dma (famS 1 k)) 0) ∗ (bigSep Finset.univ fun k : Fin 16 => semVal ((c : Thread nD τ), SemLoc.dma (famS 2 k)) 0)
        ∗ bigSep Finset.univ fun k : Fin 16 => semVal ((c : Thread nD τ), SemLoc.dma (famS 3 k)) 0) := by
  unfold Pipeline.ownSems0
  rw [BI.bigSep_univ_sum, BI.bigSep_univ_prod,
    bigSep_univ_eq_bigSepL [0, 1, 2, 3] (by decide) (by decide) (fun f : Fin 4 => bigSep Finset.univ fun k : Fin 16 => (semVal ((c : Thread nD τ), osem (.inr (f, k))) 0 : sProp 𝕄)),
    show (Finset.univ : Finset Unit) = {()} from rfl, bigSep_singleton]
  rfl

/-- Everything waited for, the exchange ends. -/
theorem finish :
    iprop(Inv m κ ∗ cpI c 16 ∗ LP m c 16 ∗ atPos ER (barC c) 1 ∅ 0 ∗ Wt m c 16 ∗ (bigSep Finset.univ fun k : Fin 16 => atPos ER (xrC c k) 1 ∅ 0))
      ⊢ (|={Set.univ}=> (Final m c ∗ ∃ W, owes (c : Thread nD τ) 0 W) : sProp 𝕄) := by
  unfold cpI LP Wt YR XS YS Final ow
  rw [stages_end, stages_end, stages_end, stages_end, bigSep_sep', bigSep_sep', bigSep_sep', owX_end, owY_end, add_zero]
  unfold lS
  iintro ⟨#HI, ⟨Hcp, -, Ha⟩, Hl, Hb, ⟨⟨Hyr, Hof⟩, ⟨Hxs, Hly⟩, ⟨Hys, Hoy⟩, HO⟩, Hxr⟩
  imod (show iprop(cellInv ER (rd m) (κ (barC c)) (barC c) ∗ atPos ER (barC c) 1 ∅ 0) ⊢ (|={Set.univ}=> semVal (barC c) 0 : sProp 𝕄) from
      Rounds.cell_close ER (rd m) (Set.mem_univ _) id (fun r hr => by rw [duties_tc]; exact dut_later _ (by decide) r hr)) $$ [Hb] with Hb
  · isplitr; · iapply (Inv_at m κ (bar_mem c)); iexact HI
    iexact Hb
  imod (show iprop(cellInv ER (rd m) (κ (cpC c)) (cpC c) ∗ atPos ER (cpC c) 16 ∅ 0) ⊢ (|={Set.univ}=> semVal (cpC c) 0 : sProp 𝕄) from
      Rounds.cell_close ER (rd m) (Set.mem_univ _) id (fun r hr => by rw [duties_tc]; exact dut_later_cp r hr)) $$ [Hcp] with Hcp
  · isplitr; · iapply (Inv_at m κ (cp_mem c)); iexact HI
    iexact Hcp
  imod (close_fam m κ c 0) $$ [Hxs] with Hxs
  · isplitr; · iexact HI
    iexact Hxs
  imod (close_fam m κ c 1) $$ [Hxr] with Hxr
  · isplitr; · iexact HI
    iexact Hxr
  imod (close_fam m κ c 2) $$ [Hys] with Hys
  · isplitr; · iexact HI
    iexact Hys
  imod (close_fam m κ c 3) $$ [Hyr] with Hyr
  · isplitr; · iexact HI
    iexact Hyr
  imodintro
  isplitr [HO]
  · isplitl [Hb]; · iexact Hb
    isplitl [Hcp Hxs Hxr Hys Hyr]
    · rw [ownSems_eq]
      isplitl [Hcp]; · iexact Hcp
      isplitl [Hxs]; · iexact Hxs
      isplitl [Hxr]; · iexact Hxr
      isplitl [Hys]; · iexact Hys
      iexact Hyr
    isplitl [Hl Hly]
    · rw [l_blocks]
      ihave H := (Entails.of_eq (bigSep_sep' Finset.univ (fun k : Fin 16 => lPt c k (ym c) (lfin m c)) (fun k : Fin 16 => lPt c k (flip (ym c)) (lfin m c))).symm) $$ [Hl Hly]
      · isplitl [Hly] <;> iassumption
      iapply (show (bigSep Finset.univ fun k : Fin 16 => iprop(lPt c k (ym c) (lfin m c) ∗ lPt c k (flip (ym c)) (lfin m c))) ⊢ (bigSep Finset.univ fun k : Fin 16 => lcPt c k (lfin m c) : sProp 𝕄) from
        bigSep_mono fun k _ => Entails.of_eq (lcPt_halves c k (ym c) (lfin m c)).symm) $$ H
    isplitl [Hof Hoy]
    · rw [o_blocks, BI.bigSep_univ_prod]
      ihave H := (Entails.of_eq (bigSep_sep' Finset.univ (fun k : Fin 16 => oPt c k (ym c) (ofin m c)) (fun k : Fin 16 => oPt c k (flip (ym c)) (ofin m c))).symm) $$ [Hof Hoy]
      · isplitl [Hoy] <;> iassumption
      iapply (show (bigSep Finset.univ fun k : Fin 16 => iprop(oPt c k (ym c) (ofin m c) ∗ oPt c k (flip (ym c)) (ofin m c))) ⊢ (bigSep Finset.univ fun k : Fin 16 => bigSep Finset.univ fun y : Fin 2 => oPt c k y (ofin m c) : sProp 𝕄) from
        bigSep_mono fun k _ => Entails.of_eq (pair2 (ym c) (fun y => oPt c k y (ofin m c))).symm) $$ H
    iexact Ha
  iexact HO

/-- What a device holds before point n: nothing done, or the exchange as it stands after the point before, or all of it done. -/
def St (n : ℕ) : sProp 𝕄 :=
  if n = 0 then Start m c else if n = 16 then iprop(Final m c ∗ ∃ W, owes (c : Thread nD τ) 0 W) else Post m c (n - 1)

/-- The first part of the body, at any point. -/
theorem run_any (t : Fin grid0.N) (arg1 : Memref sig .tc .vmem S2048x4096 .f32) (harg1 : arg1.IsWhole) (arg2 : Memref sig .tc .vmem S4096x512 .f32) (harg2 : arg2.IsWhole)
    (h3 h4 h5) (Kt : _ → sProp 𝕄) :
    iprop(Inv m κ ∗ St m c t.val ∗ owns (c : Thread nD τ) arg1 fullShare (xin m c) ∗ owns (c : Thread nD τ) arg2 fullShare (wblk m c t))
      ⊢ iprop((∀ r, ⌜r.1 = c⌝ -∗ (Post m c t.val ∗ owns (c : Thread nD τ) arg1 fullShare (xin m c) ∗ owns (c : Thread nD τ) arg2 fullShare (wblk m c t)) -∗ Kt r)
        -∗ wp frame (wpE (defs₀ (F := F)) 𝒱₀ (c : Thread nD τ) none) Set.univ
          (k0_part16 (grid0.coords t) arg1 harg1 arg2 harg2 lM h3 oM h4 aM h5 cc0_scratch1 cc0_scratch2 cc0_scratch3 cc0_scratch4 cc0_scratch5) Kt) := by
  by_cases ht : t.val = 0
  · rw [show St m c t.val = Start m c from if_pos ht]
    exact run_first m κ c t ht arg1 harg1 arg2 harg2 h3 h4 h5 Kt
  · have hlt : t.val < 16 := lt_of_lt_of_eq t.isLt N_0
    rw [show St m c t.val = Post m c (t.val - 1) from (if_neg ht).trans (if_neg (by omega))]
    exact run_next m κ c t (by omega) arg1 harg1 arg2 harg2 h3 h4 h5 Kt

/-- The body at a point takes what a device holds before it to what it holds before the next. -/
theorem body_run (t : Fin grid0.N) (arg1 : Memref sig .tc .vmem S2048x4096 .f32) (harg1 : arg1.IsWhole) (arg2 : Memref sig .tc .vmem S4096x512 .f32) (harg2 : arg2.IsWhole)
    (h3 h4 h5) (Q : PUnit → sProp 𝕄) :
    iprop(Inv m κ ∗ St m c t.val ∗ owns (c : Thread nD τ) arg1 fullShare (xin m c) ∗ owns (c : Thread nD τ) arg2 fullShare (wblk m c t))
      ⊢ iprop(((St m c (t.val + 1) ∗ owns (c : Thread nD τ) arg1 fullShare (xin m c) ∗ owns (c : Thread nD τ) arg2 fullShare (wblk m c t)) -∗ Q ⟨⟩)
        -∗ wp frame (wpE (defs₀ (F := F)) 𝒱₀ (c : Thread nD τ) none) Set.univ
          (cc0_body (grid0.coords t) arg1 harg1 arg2 harg2 lM h3 oM h4 aM h5 cc0_scratch1 cc0_scratch2 cc0_scratch3 cc0_scratch4 cc0_scratch5) Q) := by
  rw [cc0_body_eq_skeleton]
  unfold cc0_body_skel
  iintro ⟨#HI, HS, H1, H2⟩ Hk
  rw [wp_bind]
  iapply (run_any m κ c t arg1 harg1 arg2 harg2 h3 h4 h5 _) $$ [HS H1 H2]
  · isplitr; · iexact HI
    isplitl [HS]; · iexact HS
    isplitl [H1] <;> iassumption
  iintro %r %hr ⟨HP, H1, H2⟩
  obtain ⟨d, v2, v5, v6, v7, v29⟩ := r
  have hd : d = c := hr
  subst hd
  by_cases h15 : t.val = 15
  · have hc := (cond4_iff t).mpr h15
    have ht : t = ptOf 15 := Fin.ext h15
    subst ht
    rw [show (ptOf 15).val = 15 from rfl]
    rw [show St m d (15 + 1) = iprop(Final m d ∗ ∃ W, owes (d : Thread nD τ) 0 W) from rfl]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    rw [dif_pos hc]
    unfold k0_part1_skel k0_part2_skel k0_part3_skel k0_part4_skel k0_part5_skel k0_part6_skel k0_part7_skel k0_part8_skel k0_part9_skel k0_part10_skel k0_part11_skel k0_part12_skel k0_part13_skel k0_part14_skel k0_part15_skel
    unfold Post
    icases HP with ⟨HcF, HX, HY, HLP, -, HatB, HC, HO⟩
    iapply (cp_wait m κ d 15 cp_eq (by rfl) _ _) $$ [HcF HLP HO]
    · isplitr; · iexact HI
      isplitl [HcF]; · iexact HcF
      isplitl [HLP]; · iexact HLP
      iexact HO
    iintro ⟨HcI, HLP, Hl, HO⟩
    iapply (x_send m κ d 15 (xs_eq rfl _) (xr_eq rfl _) (dev5_eq d _) (lslice_eq (off7_eq d) _) (oslice_eq (off7_eq d) _) _) $$ [HX Hl HO]
    · isplitr; · iexact HI
      isplitl [HX]; · iexact HX
      isplitl [Hl]; · iexact Hl
      iexact HO
    iintro ⟨HX, HO⟩
    iapply (y_wait m κ d 13 (xr_eq rfl _) (by rfl) 16 _ (by decide)) $$ [HY HO]
    · isplitr; · iexact HI
      isplitl [HY]; · iexact HY
      iexact HO
    iintro ⟨HY, HO⟩
    iapply (y_send m κ d 13 (ys_eq rfl _) (yr_eq rfl _) (dev6_eq d _) (oslice_eq (off8_eq d) _) (oslice_eq (off8_eq d) _) _) $$ [HY HO]
    · isplitr; · iexact HI
      isplitl [HY]; · iexact HY
      iexact HO
    iintro ⟨HY, HO⟩
    iapply (y_wait m κ d 14 (xr_eq rfl _) (by rfl) 16 _ (by decide)) $$ [HY HO]
    · isplitr; · iexact HI
      isplitl [HY]; · iexact HY
      iexact HO
    iintro ⟨HY, HO⟩
    iapply (y_send m κ d 14 (ys_eq rfl _) (yr_eq rfl _) (dev7_eq d _) (oslice_eq (off9_eq d) _) (oslice_eq (off9_eq d) _) _) $$ [HY HO]
    · isplitr; · iexact HI
      isplitl [HY]; · iexact HY
      iexact HO
    iintro ⟨HY, HO⟩
    iapply (y_wait m κ d 15 (xr_eq rfl _) (by rfl) 16 _ (by decide)) $$ [HY HO]
    · isplitr; · iexact HI
      isplitl [HY]; · iexact HY
      iexact HO
    iintro ⟨HY, HO⟩
    iapply (y_send m κ d 15 (ys_eq rfl _) (yr_eq rfl _) (dev8_eq d _) (oslice_eq (off7_eq d) _) (oslice_eq (off7_eq d) _) _) $$ [HY HO]
    · isplitr; · iexact HI
      isplitl [HY]; · iexact HY
      iexact HO
    iintro ⟨HY, HO⟩
    ihave HW := (Wt_intro m d) $$ [HX HY HC HO]
    · isplitl [HX]; · iexact HX
      isplitl [HY]; · iexact HY
      isplitl [HC]; · iexact HC
      iexact HO
    icases HW with ⟨HW, Hxr⟩
    iapply (tail_round m κ d 0 (yr_eq rfl _) (xs_eq rfl _) (ys_eq rfl _) (by rfl) (by rfl) (by rfl)) $$ [HW]
    · isplitr; · iexact HI
      iexact HW
    iintro HW
    iapply (tail_round m κ d 1 (yr_eq rfl _) (xs_eq rfl _) (ys_eq rfl _) (by rfl) (by rfl) (by rfl)) $$ [HW]
    · isplitr; · iexact HI
      iexact HW
    iintro HW
    iapply (tail_round m κ d 2 (yr_eq rfl _) (xs_eq rfl _) (ys_eq rfl _) (by rfl) (by rfl) (by rfl)) $$ [HW]
    · isplitr; · iexact HI
      iexact HW
    iintro HW
    iapply (tail_round m κ d 3 (yr_eq rfl _) (xs_eq rfl _) (ys_eq rfl _) (by rfl) (by rfl) (by rfl)) $$ [HW]
    · isplitr; · iexact HI
      iexact HW
    iintro HW
    iapply (tail_round m κ d 4 (yr_eq rfl _) (xs_eq rfl _) (ys_eq rfl _) (by rfl) (by rfl) (by rfl)) $$ [HW]
    · isplitr; · iexact HI
      iexact HW
    iintro HW
    iapply (tail_round m κ d 5 (yr_eq rfl _) (xs_eq rfl _) (ys_eq rfl _) (by rfl) (by rfl) (by rfl)) $$ [HW]
    · isplitr; · iexact HI
      iexact HW
    iintro HW
    iapply (tail_round m κ d 6 (yr_eq rfl _) (xs_eq rfl _) (ys_eq rfl _) (by rfl) (by rfl) (by rfl)) $$ [HW]
    · isplitr; · iexact HI
      iexact HW
    iintro HW
    iapply (tail_round m κ d 7 (yr_eq rfl _) (xs_eq rfl _) (ys_eq rfl _) (by rfl) (by rfl) (by rfl)) $$ [HW]
    · isplitr; · iexact HI
      iexact HW
    iintro HW
    iapply (tail_round m κ d 8 (yr_eq rfl _) (xs_eq rfl _) (ys_eq rfl _) (by rfl) (by rfl) (by rfl)) $$ [HW]
    · isplitr; · iexact HI
      iexact HW
    iintro HW
    iapply (tail_round m κ d 9 (yr_eq rfl _) (xs_eq rfl _) (ys_eq rfl _) (by rfl) (by rfl) (by rfl)) $$ [HW]
    · isplitr; · iexact HI
      iexact HW
    iintro HW
    iapply (tail_round m κ d 10 (yr_eq rfl _) (xs_eq rfl _) (ys_eq rfl _) (by rfl) (by rfl) (by rfl)) $$ [HW]
    · isplitr; · iexact HI
      iexact HW
    iintro HW
    iapply (tail_round m κ d 11 (yr_eq rfl _) (xs_eq rfl _) (ys_eq rfl _) (by rfl) (by rfl) (by rfl)) $$ [HW]
    · isplitr; · iexact HI
      iexact HW
    iintro HW
    iapply (tail_round m κ d 12 (yr_eq rfl _) (xs_eq rfl _) (ys_eq rfl _) (by rfl) (by rfl) (by rfl)) $$ [HW]
    · isplitr; · iexact HI
      iexact HW
    iintro HW
    iapply (tail_round m κ d 13 (yr_eq rfl _) (xs_eq rfl _) (ys_eq rfl _) (by rfl) (by rfl) (by rfl)) $$ [HW]
    · isplitr; · iexact HI
      iexact HW
    iintro HW
    iapply (tail_round m κ d 14 (yr_eq rfl _) (xs_eq rfl _) (ys_eq rfl _) (by rfl) (by rfl) (by rfl)) $$ [HW]
    · isplitr; · iexact HI
      iexact HW
    iintro HW
    iapply (tail_round m κ d 15 (yr_eq rfl _) (xs_eq rfl _) (ys_eq rfl _) (by rfl) (by rfl) (by rfl)) $$ [HW]
    · isplitr; · iexact HI
      iexact HW
    iintro HW
    rw [show ((Prog.ret PUnit.unit : Prog (TpuEff nD τ sig (Elt F) Λ₀ .tc) PUnit).bind fun _ => Pure.pure PUnit.unit) = Prog.ret PUnit.unit from rfl, wp_ret]
    imod (finish m κ d) $$ [HcI HLP HatB HW Hxr] with HF
    · isplitr; · iexact HI
      isplitl [HcI]; · iexact HcI
      isplitl [HLP]; · iexact HLP
      isplitl [HatB]; · iexact HatB
      isplitl [HW]; · iexact HW
      iexact Hxr
    imodintro
    iapply Hk
    isplitl [HF]; · iexact HF
    isplitl [H1] <;> iassumption
  · have hc := fun h => h15 ((cond4_iff t).mp h)
    have hlt : t.val < 16 := lt_of_lt_of_eq t.isLt N_0
    rw [show St m d (t.val + 1) = Post m d t.val from (if_neg (by omega)).trans (if_neg (by omega))]
    simp only [dif_neg hc, Prog.pure_eq_ret, Prog.bind_ret]
    rw [wp_ret]
    imodintro
    iapply Hk
    isplitl [HP]; · iexact HP
    isplitl [H1] <;> iassumption

end Cert.KernelIdeal.Proof

end
-- ==== Proof.Region0.lean ====
/-
  The exchange as a pipeline: what the loop's invariant is at each point, what is owed there, and that the body keeps both.
-/
module

public import proofs.«01_k».proof.Proof.Tail
public import Idealize.ShloMosaic.Lib.Pipeline.FrameBody

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device holds apart from what it owes -/

/-- What the device owes before point n. -/
def owedAt (c : Dev nD) (n : ℕ) : CellTallies nD τ sig Unit :=
  if n = 0 then O₀ c else if n = 16 then 0 else owX c (n - 1) + owY c (n - 1 - 2)
/-- What it holds before the first point. -/
def Start' (c : Dev nD) : sProp 𝕄 := iprop(barPre c ∗ cpI c 0 ∗ LP m c 0 ∗ LU c 0 ∗ Cst c)
/-- What it holds after point n. -/
def Post' (c : Dev nD) (n : ℕ) : sProp 𝕄 :=
  iprop(cpF c n ∗ X c n ∗ Y c (n - 2) ∗ LP m c n ∗ LU c (n + 1) ∗ atPos ER (barC c) 1 ∅ 0 ∗ Cst c)
/-- What it holds before point n. -/
def St' (c : Dev nD) (n : ℕ) : sProp 𝕄 := if n = 0 then Start' m c else if n = 16 then Final m c else Post' m c (n - 1)

theorem St_join (c : Dev nD) (n : ℕ) : iprop(St' m c n ∗ ∃ W, owes (c : Thread nD τ) (owedAt c n) W) ⊢ St m c n := by
  unfold St' owedAt St
  by_cases h0 : n = 0
  · rw [if_pos h0, if_pos h0, if_pos h0]
    unfold Start' Start
    iintro ⟨⟨H1, H2, H3, H4, H5⟩, HO⟩
    isplitl [H1]; · iexact H1
    isplitl [H2]; · iexact H2
    isplitl [H3]; · iexact H3
    isplitl [H4]; · iexact H4
    isplitl [H5]; · iexact H5
    iexact HO
  · rw [if_neg h0, if_neg h0, if_neg h0]
    by_cases h1 : n = 16
    · rw [if_pos h1, if_pos h1, if_pos h1]
    · rw [if_neg h1, if_neg h1, if_neg h1]
      unfold Post' Post ow
      iintro ⟨⟨H1, H2, H3, H4, H5, H6, H7⟩, HO⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HO

theorem St_split (c : Dev nD) (n : ℕ) : St m c n ⊢ iprop(St' m c n ∗ ∃ W, owes (c : Thread nD τ) (owedAt c n) W) := by
  unfold St' owedAt St
  by_cases h0 : n = 0
  · rw [if_pos h0, if_pos h0, if_pos h0]
    unfold Start' Start
    iintro ⟨H1, H2, H3, H4, H5, HO⟩
    isplitr [HO]
    · isplitl [H1]; · iexact H1
      isplitl [H2]; · iexact H2
      isplitl [H3]; · iexact H3
      isplitl [H4]; · iexact H4
      iexact H5
    iexact HO
  · rw [if_neg h0, if_neg h0, if_neg h0]
    by_cases h1 : n = 16
    · rw [if_pos h1, if_pos h1, if_pos h1]
    · rw [if_neg h1, if_neg h1, if_neg h1]
      unfold Post' Post ow
      iintro ⟨H1, H2, H3, H4, H5, H6, H7, HO⟩
      isplitr [HO]
      · isplitl [H1]; · iexact H1
        isplitl [H2]; · iexact H2
        isplitl [H3]; · iexact H3
        isplitl [H4]; · iexact H4
        isplitl [H5]; · iexact H5
        isplitl [H6]; · iexact H6
        iexact H7
      iexact HO

/-! ## The proof data -/

/-- The scoped buffers which the exchange neither stages nor uses: the other call's. -/
def slots0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The exchange's proof data: x whole and w's column blocks come in, nothing goes out through a window. -/
def dat0 (c : Dev nD) : Dat τ (Elt F) Unit ℕ UU ℕ cfg0 c where
  A := fun
    | 0 => m ((c : Thread nD τ).loc main_arg0)
    | 1 => m ((c : Thread nD τ).loc main_arg1)
  after := fun
    | 0 => fun _ => xin m c
    | 1 => fun t => wblk m c t
  Φ t := iprop((∃ κ, Inv m κ) ∗ St' m c t.val ∗ slots0 c ∗ ∃ r, prngReg c r)
  q _ := fullShare
  owed t := owedAt c t.val

theorem owes_in {cfg : Pipeline.Cfg sig Λ₀} {c : Dev nD} (dat : Dat τ (Elt F) Unit ℕ UU ℕ cfg c) (t : Fin (cfg.N + 1))
    (hr : dat.recorded t = Set.univ) :
    iprop(∃ W, owes (c : Thread nD τ) (dat.owed t) W) ⊢ (dat.owesAt () t : sProp 𝕄) := by
  unfold Dat.owesAt Pipeline.owesWithin Dat.bound; rw [hr]
  iintro ⟨%W, HO⟩
  iexists W
  isplitr; · ipureintro; exact fun _ _ => Or.inl trivial
  iexact HO
theorem owes_out {cfg : Pipeline.Cfg sig Λ₀} {c : Dev nD} (dat : Dat τ (Elt F) Unit ℕ UU ℕ cfg c) (t : Fin (cfg.N + 1)) :
    (dat.owesAt () t : sProp 𝕄) ⊢ iprop(∃ W, owes (c : Thread nD τ) (dat.owed t) W) := by
  unfold Dat.owesAt Pipeline.owesWithin
  iintro ⟨%W, -, HO⟩
  iexists W; iexact HO

/-- x's one block is x. -/
theorem xblk (c : Dev nD) (t : Fin grid0.N) : (win0_0.blk t).view.read (Elt F) (m ((c : Thread nD τ).loc main_arg0)) = xin m c := by
  funext x
  have e : (win0_0.blk t).view.emb x = x := by
    funext a
    apply Fin.ext
    match a with
    | 0 => show 0 * 2048 + 1 * (x _).val = (x _).val; omega
    | 1 => show 0 * 4096 + 1 * (x _).val = (x _).val; omega
  exact congrArg (m ((c : Thread nD τ).loc main_arg0)) e

theorem before0_0 (c : Dev nD) (t : Fin cfg0.N) (d) : (dat0 m c).before 0 t d = xin m c :=
  ((dat0 m c).before_in_eq_fetched 0 rfl (fun _ => rfl) (fun _ _ _ => rfl) (fun t => (xblk m c t).symm) t d).trans (xblk m c t)
theorem before0_1 (c : Dev nD) (t : Fin cfg0.N) (d) : (dat0 m c).before 1 t d = wblk m c t := by
  unfold Dat.before; rw [if_pos (fetch0_1 t)]; rfl

/-- The body at every point keeps the exchange's invariant. -/
theorem body0 (c : Dev nD) : BodyObligation (dat0 m c) defs₀ 𝒱₀ () Set.univ := fun t => by
  rw [bigSep_W0, bigSep_W0]
  show iprop(iprop((∃ κ, Inv m κ) ∗ St' m c t.val ∗ slots0 c ∗ ∃ r, prngReg c r) ∗ (dat0 m c).owesAt () t.castSucc
      ∗ ((∃ d, owns (c : Thread nD τ) (win0_0.stage (cfg0.slots t 0)) fullShare ((dat0 m c).before 0 t d))
        ∗ (∃ d, owns (c : Thread nD τ) (win0_1.stage (cfg0.slots t 1)) fullShare ((dat0 m c).before 1 t d))))
    ⊢ wp frame (wpE defs₀ 𝒱₀ (c : Thread nD τ) none) Set.univ (bodyAt0 t) fun _ =>
      iprop(iprop((∃ κ, Inv m κ) ∗ St' m c (t.val + 1) ∗ slots0 c ∗ ∃ r, prngReg c r) ∗ (dat0 m c).owesAt () t.succ
      ∗ (owns (c : Thread nD τ) (win0_0.stage (cfg0.slots t 0)) fullShare (xin m c)
        ∗ owns (c : Thread nD τ) (win0_1.stage (cfg0.slots t 1)) fullShare (wblk m c t)))
  iintro ⟨⟨⟨%κ, #HI⟩, HS, Hsl, Hp⟩, HO, ⟨%d0, H0⟩, ⟨%d1, H1⟩⟩
  rw [before0_0, before0_1]
  ihave HO' := (owes_out (dat0 m c) t.castSucc) $$ HO
  ihave HS' := (St_join m c t.val) $$ [HS HO']
  · isplitl [HS]; · iexact HS
    iexact HO'
  iapply (body_run m κ c t (win0_0.stage (cfg0.slots t 0)) (hstage0_0 ((cfg0.slots t 0).cast nbuf0_0)) (win0_1.stage (cfg0.slots t 1)) (hstage0_1 ((cfg0.slots t 1).cast nbuf0_1)) _ _ _ _) $$ [HS' H0 H1]
  · isplitr; · iexact HI
    isplitl [HS']; · iexact HS'
    isplitl [H0] <;> iassumption
  iintro ⟨HS, H0, H1⟩
  ihave HS' := (St_split m c (t.val + 1)) $$ HS
  icases HS' with ⟨HS, HO⟩
  isplitr [HO H0 H1]
  · isplitr; · iexists κ; iexact HI
    isplitl [HS]; · iexact HS
    isplitl [Hsl] <;> iassumption
  isplitl [HO]
  · iapply (owes_in (dat0 m c) t.succ rfl); iexact HO
  isplitl [H0] <;> iassumption

end Cert.KernelIdeal.Proof

end
-- ==== Proof.Softmax.lean ====
/-
  The body of the softmax of two halves: what it computes at a row block, and that it computes it.
-/
module

public import proofs.«01_k».proof.Proof.Region0

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ UU ℕ

/-! ## The values -/

/-- Chunk n of the two halves side by side: the first sixteen are the device's own, the others its peer's. -/
def seq (A B : Vec F S16x64x512 .bf16) (n : ℕ) : Vec F S1x64x512 .bf16 := fun i =>
  if n < 16 then A (ix3 (Fin.ofNat 16 n) (i 1) (i 2)) else B (ix3 (Fin.ofNat 16 (n - 16)) (i 1) (i 2))
/-- Chunk j of one half. -/
def chA (A : Vec F S16x64x512 .bf16) (j : Fin 16) : Vec F S1x64x512 .bf16 := fun i => A (ix3 j (i 1) (i 2))
theorem seq_own (A B : Vec F S16x64x512 .bf16) (n : ℕ) (hn : n < 16) : chA A ⟨n, hn⟩ = seq A B n := by
  funext i; unfold seq chA; rw [if_pos hn, show Fin.ofNat 16 n = ⟨n, hn⟩ from Fin.ext (Nat.mod_eq_of_lt hn)]
theorem seq_peer (A B : Vec F S16x64x512 .bf16) (n : ℕ) (h16 : ¬ n < 16) (hn : n - 16 < 16) : chA B ⟨n - 16, hn⟩ = seq A B n := by
  funext i; unfold seq chA; rw [if_neg h16, show Fin.ofNat 16 (n - 16) = ⟨n - 16, hn⟩ from Fin.ext (Nat.mod_eq_of_lt hn)]
/-- A chunk in the wide format. -/
def cf (v : Vec F S1x64x512 .bf16) : FVec F S64x512 .f32 :=
  extf .f32 (shapeCast S64x512 v shapeCasts_S1x64x512_S64x512) bitsLt_bf16_f32
/-- The row maxima of a chunk. -/
def mx1 (v : Vec F S1x64x512 .bf16) : FVec F S64x1 .f32 :=
  shapeCast S64x1 (multiReduction .maximumf [1] S64 (cf v) 0xFF800000#32 reduces_S64x512_S64 (.inl rfl) rfl) shapeCasts_S64_S64x1
/-- The row maxima of chunks 0 … n. -/
def Mx (a : ℕ → Vec F S1x64x512 .bf16) : ℕ → FVec F S64x1 .f32
  | 0 => mx1 (a 0)
  | n + 1 => maximumf (Mx a n) (mx1 (a (n + 1)))
/-- The maxima spread over a chunk's columns. -/
def spread (μ : FVec F S64x1 .f32) : FVec F S64x512 .f32 := broadcastTo S64x512 μ broadcasts_S64x1_S64x512
/-- The exponentials of a chunk, its rows lowered by μ. -/
def ex (μ : FVec F S64x1 .f32) (v : Vec F S1x64x512 .bf16) : FVec F S64x512 .f32 := exp (subf (cf v) (spread μ))
/-- The row sums of a chunk. -/
def sm1 (e : FVec F S64x512 .f32) : FVec F S64x1 .f32 :=
  shapeCast S64x1 (multiReduction .add [1] S64 e 0x00000000#32 reduces_S64x512_S64 (.inl rfl) rfl) shapeCasts_S64_S64x1
/-- The row sums of the first n chunks. -/
def Sx (μ : FVec F S64x1 .f32) (a : ℕ → Vec F S1x64x512 .bf16) : ℕ → FVec F S64x1 .f32
  | 0 => broadcast S64x1 (Scalar.ofBits .f32 0x00000000#32)
  | n + 1 => addf (Sx μ a n) (sm1 (ex μ (a n)))
/-- The column where chunk n lands on device c. -/
def col (c : Dev nD) (n : ℕ) : ℕ := if n < 16 then 8192 * (c.val / 2) + 512 * n else (512 * (n - 16) + 8192) - 8192 * (c.val / 2)
/-- The chunk that column q of device c's block is in. -/
def chOf (c : Dev nD) (q : ℕ) : ℕ := if q / 8192 = c.val / 2 then q % 8192 / 512 else 16 + q % 8192 / 512
/-- The chunks laid into one block. -/
def lay (c : Dev nD) (e : ℕ → FVec F S64x512 .f32) : Vec F S64x16384 .f32 :=
  fun i => e (chOf c (i 1).val) (ix2 (i 0) (⟨(i 1).val % 512, Nat.mod_lt _ (by decide)⟩ : Fin 512))
/-- The block the softmax leaves. -/
def softv (c : Dev nD) (A B : Vec F S16x64x512 .bf16) : Vec F S64x16384 .f32 :=
  k1_pay1 (Sx (Mx (seq A B) 31) (seq A B) 32) (lay c fun n => ex (Mx (seq A B) 31) (seq A B n))

/-- The block holds the first n chunks. -/
def Agr (c : Dev nD) (e : ℕ → FVec F S64x512 .f32) (n : ℕ) (X : Vec F S64x16384 .f32) : Prop :=
  ∀ i : S64x16384.Idx, chOf c (i 1).val < n → X i = lay c e i

theorem Agr_zero (c : Dev nD) (e : ℕ → FVec F S64x512 .f32) (X) : Agr c e 0 X := fun _ h => absurd h (Nat.not_lt_zero _)
theorem Agr_full (c : Dev nD) (e : ℕ → FVec F S64x512 .f32) (X) (h : Agr c e 32 X) : X = lay c e :=
  funext fun i => h i (by
    have h1 : (i 1).val < 16384 := (i 1).isLt
    unfold chOf; split <;> omega)

/-! ## The steps -/

variable (c : Dev nD) (M1 M2 : Memref sig .tc .vmem S16x64x512 .bf16) (M3 : Memref sig .tc .vmem S64x16384 .f32)
  (A B : Vec F S16x64x512 .bf16)

/-- The two halves' windows. -/
def AB : sProp 𝕄 := iprop(owns (c : Thread nD τ) M1 fullShare A ∗ owns (c : Thread nD τ) M2 fullShare B)
/-- The output's window after n chunks. -/
def Hd (e : ℕ → FVec F S64x512 .f32) (n : ℕ) : sProp 𝕄 := iprop(∃ X, ⌜Agr c e n X⌝ ∗ owns (c : Thread nD τ) M3 fullShare X)

theorem chunk_read {off : Fin 3 → ℕ} (j : Fin 16) (hoff : off = ![j.val, 0, 0]) (inb) (M : Memref sig .tc .vmem S16x64x512 .bf16) (f) (X : Vec F S16x64x512 .bf16)
    (h : M.view.read (Elt F) f = X) :
    M.view.readAt (Elt F) (Rect.unit (s := S16x64x512) off S1x64x512.size inb).toLoadRect f = chA X j := by
  subst hoff
  funext i
  rw [← h]
  refine congrArg (M.view.read (Elt F) f) (funext fun a => Fin.ext ?_)
  have h0 : (i 0).val = 0 := by have : (i 0).val < 1 := (i 0).isLt; omega
  match a with
  | 0 => show j.val + 1 * (i 0).val = j.val; omega
  | 1 => show 0 + 1 * (i 1).val = (i 1).val; omega
  | 2 => show 0 + 1 * (i 2).val = (i 2).val; omega

/-- Reading a chunk of the device's own half. -/
theorem ldA (n : ℕ) (hn : n < 16) {off : Fin 3 → ℕ} (hoff : off = ![n, 0, 0]) {inb} {hl}
    {α : Type} {k : Vec F S1x64x512 .bf16 → Prog (TpuEff nD τ sig (Elt F) Λ₀ .tc) α} {Q : α → sProp 𝕄} :
    AB c M1 M2 A B ⊢ iprop((AB c M1 M2 A B -∗ wp frame (wpE (defs₀ (F := F)) 𝒱₀ (c : Thread nD τ) none) Set.univ (k (seq A B n)) Q)
      -∗ wp frame (wpE (defs₀ (F := F)) 𝒱₀ (c : Thread nD τ) none) Set.univ
          (.op (.load M1 (Rect.unit (s := S16x64x512) off S1x64x512.size inb).toLoadRect hl) k) Q) := by
  unfold AB owns
  iintro ⟨⟨%f, %e, H1⟩, H2⟩ Hk
  iapply (wp_load 𝒱₀ (c : Thread nD τ) none Set.univ (m := M1) (View.setOn_subset_set _ _)) $$ H1
  iintro H1
  rw [chunk_read ⟨n, hn⟩ hoff inb M1 f A e, seq_own A B n hn]
  iapply Hk
  isplitl [H1]
  · iexists f; isplitr; · ipureintro; exact e
    iexact H1
  iexact H2
/-- Reading a chunk of the peer's half. -/
theorem ldB (n : ℕ) (h16 : ¬ n < 16) (hn : n - 16 < 16) {off : Fin 3 → ℕ} (hoff : off = ![n - 16, 0, 0]) {inb} {hl}
    {α : Type} {k : Vec F S1x64x512 .bf16 → Prog (TpuEff nD τ sig (Elt F) Λ₀ .tc) α} {Q : α → sProp 𝕄} :
    AB c M1 M2 A B ⊢ iprop((AB c M1 M2 A B -∗ wp frame (wpE (defs₀ (F := F)) 𝒱₀ (c : Thread nD τ) none) Set.univ (k (seq A B n)) Q)
      -∗ wp frame (wpE (defs₀ (F := F)) 𝒱₀ (c : Thread nD τ) none) Set.univ
          (.op (.load M2 (Rect.unit (s := S16x64x512) off S1x64x512.size inb).toLoadRect hl) k) Q) := by
  unfold AB owns
  iintro ⟨H1, ⟨%f, %e, H2⟩⟩ Hk
  iapply (wp_load 𝒱₀ (c : Thread nD τ) none Set.univ (m := M2) (View.setOn_subset_set _ _)) $$ H2
  iintro H2
  rw [chunk_read ⟨n - 16, hn⟩ hoff inb M2 f B e, seq_peer A B n h16 hn]
  iapply Hk
  isplitl [H1]; · iexact H1
  iexists f; isplitr; · ipureintro; exact e
  iexact H2

/-- Writing chunk n adds it to those the block holds. -/
theorem Agr_step (e : ℕ → FVec F S64x512 .f32) (n : ℕ) (hn : n < 32) {off : Fin 2 → ℕ} (hoff : off = ![0, col c n]) (inb)
    (f) (h : Agr c e n (M3.view.read (Elt F) f)) :
    Agr c e (n + 1) (M3.view.read (Elt F) ((M3.access (Rect.unit (s := S64x16384) off S64x512.size inb)).write (Elt F) f (e n) Finset.univ)) := by
  subst hoff
  intro i hi
  have hc : c.val / 2 < 2 := by have : c.val < 4 := c.isLt; omega
  have h1 : (i 1).val < 16384 := (i 1).isLt
  by_cases hin : chOf c (i 1).val = n
  · have hcol : (i 1).val = col c n + (i 1).val % 512 := by
      unfold chOf at hin; unfold col
      split at hin <;> split <;> omega
    let y : S64x512.Idx := ix2 (i 0) (⟨(i 1).val % 512, Nat.mod_lt _ (by decide)⟩ : Fin 512)
    have hy : (Rect.unit (s := S64x16384) ![0, col c n] S64x512.size inb).emb y = i := by
      funext a
      apply Fin.ext
      match a with
      | 0 => show 0 + 1 * (i 0).val = (i 0).val; omega
      | 1 => show col c n + 1 * ((i 1).val % 512) = (i 1).val; omega
    have e1 := View.read_slice_write_emb (Val := Elt F) (v := M3.view) (Rect.unit (s := S64x16384) ![0, col c n] S64x512.size inb) f (e n) (Finset.mem_univ y)
    rw [hy] at e1
    unfold lay
    rw [hin]
    exact e1
  · have hne : i ∉ (Finset.univ : Finset (Rect.unit (s := S64x16384) ![0, col c n] S64x512.size inb).shape.Idx).map (Rect.unit (s := S64x16384) ![0, col c n] S64x512.size inb).emb := by
      intro hmem
      obtain ⟨y, -, hy⟩ := Finset.mem_map.mp hmem
      have hq : (i 1).val = col c n + 1 * (y 1).val := congrArg (fun z : S64x16384.Idx => (z 1).val) hy.symm
      have hy1 : (y 1).val < 512 := (y 1).isLt
      apply hin
      unfold chOf col at *
      split at hq <;> split <;> omega
    have e1 := View.read_slice_write_of_not_mem (Val := Elt F) (v := M3.view) (Rect.unit (s := S64x16384) ![0, col c n] S64x512.size inb) f (e n) Finset.univ hne
    exact e1.trans (h i (by omega))

/-- Writing a chunk, with the read of its old contents before it. -/
theorem st (e : ℕ → FVec F S64x512 .f32) (n : ℕ) (hn : n < 32) {off : Fin 2 → ℕ} (hoff : off = ![0, col c n]) {inb} {hl} {w : FVec F S64x512 .f32} (hw : w = e n) {hx} {hm}
    {α : Type} {k : PUnit → Prog (TpuEff nD τ sig (Elt F) Λ₀ .tc) α} {Q : α → sProp 𝕄} :
    Hd c M3 e n ⊢ iprop((Hd c M3 e (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.load M3 (Rect.unit (s := S64x16384) off S64x512.size inb).toLoadRect hl) fun _ =>
           .op (.store M3 (Rect.unit (s := S64x16384) off S64x512.size inb) w Finset.univ hx hm) k) Q) := by
  subst hw
  unfold Hd owns
  iintro ⟨%X, %hX, ⟨%f, %ef, H⟩⟩ Hk
  iapply (wp_load 𝒱₀ (c : Thread nD τ) none Set.univ (m := M3) (View.setOn_subset_set _ _)) $$ H
  iintro H
  iapply (wp_store 𝒱₀ (c : Thread nD τ) none Set.univ (m := M3) (r := Rect.unit (s := S64x16384) off S64x512.size inb) (Mk := Finset.univ)
    (View.set_slice_subset _ _)) $$ H
  iintro H
  iapply Hk
  iexists _
  isplitr
  · ipureintro; exact Agr_step c M3 e n hn hoff inb f (ef ▸ hX)
  iexists _
  isplitr; · ipureintro; rfl
  iexact H

/-- The last step: the block is read whole and written back scaled. -/
theorem fin (e : ℕ → FVec F S64x512 .f32) {s : FVec F S64x1 .f32} {inb inb' inb''} {hl hl'} {hx} {hm}
    {Q : PUnit → sProp 𝕄} :
    Hd c M3 e 32 ⊢ iprop((owns (c : Thread nD τ) M3 fullShare (k1_pay1 s (lay c e)) -∗ Q ⟨⟩)
      -∗ wp frame (wpE (defs₀ (F := F)) 𝒱₀ (c : Thread nD τ) none) Set.univ
          (.op (.load M3 (Rect.unit (s := S64x16384) ![0, 0] S64x16384.size inb).toLoadRect hl) fun v =>
           .op (.load M3 (Rect.unit (s := S64x16384) ![0, 0] S64x16384.size inb').toLoadRect hl') fun _ =>
           .op (.store M3 (Rect.unit (s := S64x16384) ![0, 0] S64x16384.size inb'') (k1_pay1 s v) Finset.univ hx hm) Prog.ret) Q) := by
  unfold Hd owns
  iintro ⟨%X, %hX, ⟨%f, %ef, H⟩⟩ Hk
  iapply (wp_load 𝒱₀ (c : Thread nD τ) none Set.univ (m := M3) (View.setOn_subset_set _ _)) $$ H
  iintro H
  iapply (wp_load 𝒱₀ (c : Thread nD τ) none Set.univ (m := M3) (View.setOn_subset_set _ _)) $$ H
  iintro H
  iapply (wp_store 𝒱₀ (c : Thread nD τ) none Set.univ (m := M3) (r := Rect.unit (s := S64x16384) ![0, 0] S64x16384.size inb'') (Mk := Finset.univ)
    (View.set_slice_subset _ _)) $$ H
  iintro H
  rw [wp_ret]
  imodintro
  iapply Hk
  iexists _
  isplitr [H]
  rotate_left
  · iexact H
  ipureintro
  rw [show M3.view.readAt (Elt F) (Rect.unit (s := S64x16384) ![0, 0] S64x16384.size inb).toLoadRect f = lay c e from
    ((View.readAt_full _ _ _).trans ef).trans (Agr_full c e X hX)]
  funext i
  have hy : (Rect.unit (s := S64x16384) ![0, 0] S64x16384.size inb'').emb i = i := by
    funext a
    apply Fin.ext
    match a with
    | 0 => show 0 + 1 * (i 0).val = (i 0).val; omega
    | 1 => show 0 + 1 * (i 1).val = (i 1).val; omega
  have e1 := View.read_slice_write_emb (Val := Elt F) (v := M3.view) (Rect.unit (s := S64x16384) ![0, 0] S64x16384.size inb'') f (k1_pay1 s (lay c e)) (Finset.mem_univ i)
  rw [hy] at e1
  exact e1

/-! ## The parts -/

theorem part1_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (Kt : _ → sProp 𝕄) :
    iprop(AB c arg1 arg2 A B)
      ⊢ iprop(((AB c arg1 arg2 A B) -∗ Kt ⟨c, (Scalar.remsi (Scalar.divsi (Dev.word c) 2#32) 2#32), Mx (seq A B) 4, seq A B 5⟩)
        -∗ wp frame (wpE (defs₀ (F := F)) 𝒱₀ (c : Thread nD τ) none) Set.univ (k1_part1 i arg1 harg1 arg2 harg2 arg3 harg3 ) Kt) := by
  rw [k1_part1_eq_skeleton]
  unfold k1_part1_skel
  simp only [Prog.lift, Prog.bind_op, Prog.bind_ret, Prog.pure_eq_ret, wp_deviceId]
  iintro HA Hk
  iapply (ldA c arg1 arg2 A B 0 (by decide) rfl) $$ HA
  iintro HA
  iapply (ldA c arg1 arg2 A B 1 (by decide) rfl) $$ HA
  iintro HA
  iapply (ldA c arg1 arg2 A B 2 (by decide) rfl) $$ HA
  iintro HA
  iapply (ldA c arg1 arg2 A B 3 (by decide) rfl) $$ HA
  iintro HA
  iapply (ldA c arg1 arg2 A B 4 (by decide) rfl) $$ HA
  iintro HA
  iapply (ldA c arg1 arg2 A B 5 (by decide) rfl) $$ HA
  iintro HA
  rw [wp_ret]
  imodintro
  iapply (Entails.of_eq (congrArg Kt (by rfl : ⟨c, (Scalar.remsi (Scalar.divsi (Dev.word c) 2#32) 2#32), Mx (seq A B) 4, seq A B 5⟩ = _)))
  iapply Hk
  iexact HA

theorem part2_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (Kt : _ → sProp 𝕄) :
    iprop(AB c arg1 arg2 A B)
      ⊢ iprop(((AB c arg1 arg2 A B) -∗ Kt ⟨Mx (seq A B) 10, seq A B 11⟩)
        -∗ wp frame (wpE (defs₀ (F := F)) 𝒱₀ (c : Thread nD τ) none) Set.univ (k1_part2 i arg1 harg1 arg2 harg2 arg3 harg3 (Mx (seq A B) 4) (seq A B 5)) Kt) := by
  rw [k1_part2_eq_skeleton]
  unfold k1_part2_skel
  simp only [Prog.lift, Prog.bind_op, Prog.bind_ret, Prog.pure_eq_ret]
  iintro HA Hk
  iapply (ldA c arg1 arg2 A B 6 (by decide) rfl) $$ HA
  iintro HA
  iapply (ldA c arg1 arg2 A B 7 (by decide) rfl) $$ HA
  iintro HA
  iapply (ldA c arg1 arg2 A B 8 (by decide) rfl) $$ HA
  iintro HA
  iapply (ldA c arg1 arg2 A B 9 (by decide) rfl) $$ HA
  iintro HA
  iapply (ldA c arg1 arg2 A B 10 (by decide) rfl) $$ HA
  iintro HA
  iapply (ldA c arg1 arg2 A B 11 (by decide) rfl) $$ HA
  iintro HA
  rw [wp_ret]
  imodintro
  iapply (Entails.of_eq (congrArg Kt (by rfl : ⟨Mx (seq A B) 10, seq A B 11⟩ = _)))
  iapply Hk
  iexact HA

theorem part3_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (Kt : _ → sProp 𝕄) :
    iprop(AB c arg1 arg2 A B)
      ⊢ iprop(((AB c arg1 arg2 A B) -∗ Kt ⟨Mx (seq A B) 16, seq A B 17⟩)
        -∗ wp frame (wpE (defs₀ (F := F)) 𝒱₀ (c : Thread nD τ) none) Set.univ (k1_part3 i arg1 harg1 arg2 harg2 arg3 harg3 (Mx (seq A B) 10) (seq A B 11)) Kt) := by
  rw [k1_part3_eq_skeleton]
  unfold k1_part3_skel
  simp only [Prog.lift, Prog.bind_op, Prog.bind_ret, Prog.pure_eq_ret]
  iintro HA Hk
  iapply (ldA c arg1 arg2 A B 12 (by decide) rfl) $$ HA
  iintro HA
  iapply (ldA c arg1 arg2 A B 13 (by decide) rfl) $$ HA
  iintro HA
  iapply (ldA c arg1 arg2 A B 14 (by decide) rfl) $$ HA
  iintro HA
  iapply (ldA c arg1 arg2 A B 15 (by decide) rfl) $$ HA
  iintro HA
  iapply (ldB c arg1 arg2 A B 16 (by decide) (by decide) rfl) $$ HA
  iintro HA
  iapply (ldB c arg1 arg2 A B 17 (by decide) (by decide) rfl) $$ HA
  iintro HA
  rw [wp_ret]
  imodintro
  iapply (Entails.of_eq (congrArg Kt (by rfl : ⟨Mx (seq A B) 16, seq A B 17⟩ = _)))
  iapply Hk
  iexact HA

theorem part4_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (Kt : _ → sProp 𝕄) :
    iprop(AB c arg1 arg2 A B)
      ⊢ iprop(((AB c arg1 arg2 A B) -∗ Kt ⟨Mx (seq A B) 22, seq A B 23⟩)
        -∗ wp frame (wpE (defs₀ (F := F)) 𝒱₀ (c : Thread nD τ) none) Set.univ (k1_part4 i arg1 harg1 arg2 harg2 arg3 harg3 (Mx (seq A B) 16) (seq A B 17)) Kt) := by
  rw [k1_part4_eq_skeleton]
  unfold k1_part4_skel
  simp only [Prog.lift, Prog.bind_op, Prog.bind_ret, Prog.pure_eq_ret]
  iintro HA Hk
  iapply (ldB c arg1 arg2 A B 18 (by decide) (by decide) rfl) $$ HA
  iintro HA
  iapply (ldB c arg1 arg2 A B 19 (by decide) (by decide) rfl) $$ HA
  iintro HA
  iapply (ldB c arg1 arg2 A B 20 (by decide) (by decide) rfl) $$ HA
  iintro HA
  iapply (ldB c arg1 arg2 A B 21 (by decide) (by decide) rfl) $$ HA
  iintro HA
  iapply (ldB c arg1 arg2 A B 22 (by decide) (by decide) rfl) $$ HA
  iintro HA
  iapply (ldB c arg1 arg2 A B 23 (by decide) (by decide) rfl) $$ HA
  iintro HA
  rw [wp_ret]
  imodintro
  iapply (Entails.of_eq (congrArg Kt (by rfl : ⟨Mx (seq A B) 22, seq A B 23⟩ = _)))
  iapply Hk
  iexact HA

theorem part5_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (Kt : _ → sProp 𝕄) :
    iprop(AB c arg1 arg2 A B)
      ⊢ iprop(((AB c arg1 arg2 A B) -∗ Kt ⟨Mx (seq A B) 28, seq A B 29⟩)
        -∗ wp frame (wpE (defs₀ (F := F)) 𝒱₀ (c : Thread nD τ) none) Set.univ (k1_part5 i arg1 harg1 arg2 harg2 arg3 harg3 (Mx (seq A B) 22) (seq A B 23)) Kt) := by
  rw [k1_part5_eq_skeleton]
  unfold k1_part5_skel
  simp only [Prog.lift, Prog.bind_op, Prog.bind_ret, Prog.pure_eq_ret]
  iintro HA Hk
  iapply (ldB c arg1 arg2 A B 24 (by decide) (by decide) rfl) $$ HA
  iintro HA
  iapply (ldB c arg1 arg2 A B 25 (by decide) (by decide) rfl) $$ HA
  iintro HA
  iapply (ldB c arg1 arg2 A B 26 (by decide) (by decide) rfl) $$ HA
  iintro HA
  iapply (ldB c arg1 arg2 A B 27 (by decide) (by decide) rfl) $$ HA
  iintro HA
  iapply (ldB c arg1 arg2 A B 28 (by decide) (by decide) rfl) $$ HA
  iintro HA
  iapply (ldB c arg1 arg2 A B 29 (by decide) (by decide) rfl) $$ HA
  iintro HA
  rw [wp_ret]
  imodintro
  iapply (Entails.of_eq (congrArg Kt (by rfl : ⟨Mx (seq A B) 28, seq A B 29⟩ = _)))
  iapply Hk
  iexact HA

theorem part6_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (v2 : BitVec 32) (Kt : _ → sProp 𝕄) :
    iprop(AB c arg1 arg2 A B ∗ Hd c arg3 (fun n => ex (Mx (seq A B) 31) (seq A B n)) 0)
      ⊢ iprop(((AB c arg1 arg2 A B ∗ Hd c arg3 (fun n => ex (Mx (seq A B) 31) (seq A B n)) 1) -∗ Kt ⟨Mx (seq A B) 31, Scalar.muli v2 8192#32, Scalar.muli (Scalar.subi 1#32 v2) 8192#32, Sx (Mx (seq A B) 31) (seq A B) 1, cf (seq A B 1), spread (Mx (seq A B) 31)⟩)
        -∗ wp frame (wpE (defs₀ (F := F)) 𝒱₀ (c : Thread nD τ) none) Set.univ (k1_part6 i arg1 harg1 arg2 harg2 arg3 harg3 c v2 (Mx (seq A B) 28) (seq A B 29)) Kt) := by
  rw [k1_part6_eq_skeleton]
  unfold k1_part6_skel
  simp only [Prog.lift, Prog.bind_op, Prog.bind_ret, Prog.pure_eq_ret]
  iintro ⟨HA, HD⟩ Hk
  iapply (ldB c arg1 arg2 A B 30 (by decide) (by decide) rfl) $$ HA
  iintro HA
  iapply (ldB c arg1 arg2 A B 31 (by decide) (by decide) rfl) $$ HA
  iintro HA
  iapply (ldA c arg1 arg2 A B 0 (by decide) rfl) $$ HA
  iintro HA
  iapply (st c arg3 (fun n => ex (Mx (seq A B) 31) (seq A B n)) 0 (by decide) (k1_off1_eq c 0) (by rfl)) $$ HD
  iintro HD
  iapply (ldA c arg1 arg2 A B 1 (by decide) rfl) $$ HA
  iintro HA
  rw [wp_ret]
  imodintro
  iapply (Entails.of_eq (congrArg Kt (by rfl : ⟨Mx (seq A B) 31, Scalar.muli v2 8192#32, Scalar.muli (Scalar.subi 1#32 v2) 8192#32, Sx (Mx (seq A B) 31) (seq A B) 1, cf (seq A B 1), spread (Mx (seq A B) 31)⟩ = _)))
  iapply Hk
  isplitl [HA] <;> iassumption

theorem part7_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v195 : BitVec 32) (Kt : _ → sProp 𝕄) :
    iprop(AB c arg1 arg2 A B ∗ Hd c arg3 (fun n => ex μ (seq A B n)) 1)
      ⊢ iprop(((AB c arg1 arg2 A B ∗ Hd c arg3 (fun n => ex μ (seq A B n)) 4) -∗ Kt ⟨Sx μ (seq A B) 4, ex μ (seq A B 4)⟩)
        -∗ wp frame (wpE (defs₀ (F := F)) 𝒱₀ (c : Thread nD τ) none) Set.univ (k1_part7 i arg1 harg1 arg2 harg2 arg3 harg3 c μ v195 (Sx μ (seq A B) 1) (cf (seq A B 1)) (spread μ)) Kt) := by
  rw [k1_part7_eq_skeleton]
  unfold k1_part7_skel
  simp only [Prog.lift, Prog.bind_op, Prog.bind_ret, Prog.pure_eq_ret]
  iintro ⟨HA, HD⟩ Hk
  iapply (st c arg3 (fun n => ex μ (seq A B n)) 1 (by decide) (k1_off1_eq c 1) (by rfl)) $$ HD
  iintro HD
  iapply (ldA c arg1 arg2 A B 2 (by decide) rfl) $$ HA
  iintro HA
  iapply (st c arg3 (fun n => ex μ (seq A B n)) 2 (by decide) (k1_off1_eq c 2) (by rfl)) $$ HD
  iintro HD
  iapply (ldA c arg1 arg2 A B 3 (by decide) rfl) $$ HA
  iintro HA
  iapply (st c arg3 (fun n => ex μ (seq A B n)) 3 (by decide) (k1_off1_eq c 3) (by rfl)) $$ HD
  iintro HD
  iapply (ldA c arg1 arg2 A B 4 (by decide) rfl) $$ HA
  iintro HA
  rw [wp_ret]
  imodintro
  iapply (Entails.of_eq (congrArg Kt (by rfl : ⟨Sx μ (seq A B) 4, ex μ (seq A B 4)⟩ = _)))
  iapply Hk
  isplitl [HA] <;> iassumption

theorem part8_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v195 : BitVec 32) (Kt : _ → sProp 𝕄) :
    iprop(AB c arg1 arg2 A B ∗ Hd c arg3 (fun n => ex μ (seq A B n)) 4)
      ⊢ iprop(((AB c arg1 arg2 A B ∗ Hd c arg3 (fun n => ex μ (seq A B n)) 7) -∗ Kt ⟨ex μ (seq A B 7), Sx μ (seq A B) 8⟩)
        -∗ wp frame (wpE (defs₀ (F := F)) 𝒱₀ (c : Thread nD τ) none) Set.univ (k1_part8 i arg1 harg1 arg2 harg2 arg3 harg3 c μ v195 (Sx μ (seq A B) 4) (ex μ (seq A B 4))) Kt) := by
  rw [k1_part8_eq_skeleton]
  unfold k1_part8_skel
  simp only [Prog.lift, Prog.bind_op, Prog.bind_ret, Prog.pure_eq_ret]
  iintro ⟨HA, HD⟩ Hk
  iapply (st c arg3 (fun n => ex μ (seq A B n)) 4 (by decide) (k1_off1_eq c 4) (by rfl)) $$ HD
  iintro HD
  iapply (ldA c arg1 arg2 A B 5 (by decide) rfl) $$ HA
  iintro HA
  iapply (st c arg3 (fun n => ex μ (seq A B n)) 5 (by decide) (k1_off1_eq c 5) (by rfl)) $$ HD
  iintro HD
  iapply (ldA c arg1 arg2 A B 6 (by decide) rfl) $$ HA
  iintro HA
  iapply (st c arg3 (fun n => ex μ (seq A B n)) 6 (by decide) (k1_off1_eq c 6) (by rfl)) $$ HD
  iintro HD
  iapply (ldA c arg1 arg2 A B 7 (by decide) rfl) $$ HA
  iintro HA
  rw [wp_ret]
  imodintro
  iapply (Entails.of_eq (congrArg Kt (by rfl : ⟨ex μ (seq A B 7), Sx μ (seq A B) 8⟩ = _)))
  iapply Hk
  isplitl [HA] <;> iassumption

theorem part9_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v195 : BitVec 32) (Kt : _ → sProp 𝕄) :
    iprop(AB c arg1 arg2 A B ∗ Hd c arg3 (fun n => ex μ (seq A B n)) 7)
      ⊢ iprop(((AB c arg1 arg2 A B ∗ Hd c arg3 (fun n => ex μ (seq A B n)) 10) -∗ Kt ⟨ex μ (seq A B 10), Sx μ (seq A B) 11, Scalar.addi v195 5120#32⟩)
        -∗ wp frame (wpE (defs₀ (F := F)) 𝒱₀ (c : Thread nD τ) none) Set.univ (k1_part9 i arg1 harg1 arg2 harg2 arg3 harg3 c μ v195 (ex μ (seq A B 7)) (Sx μ (seq A B) 8)) Kt) := by
  rw [k1_part9_eq_skeleton]
  unfold k1_part9_skel
  simp only [Prog.lift, Prog.bind_op, Prog.bind_ret, Prog.pure_eq_ret]
  iintro ⟨HA, HD⟩ Hk
  iapply (st c arg3 (fun n => ex μ (seq A B n)) 7 (by decide) (k1_off1_eq c 7) (by rfl)) $$ HD
  iintro HD
  iapply (ldA c arg1 arg2 A B 8 (by decide) rfl) $$ HA
  iintro HA
  iapply (st c arg3 (fun n => ex μ (seq A B n)) 8 (by decide) (k1_off1_eq c 8) (by rfl)) $$ HD
  iintro HD
  iapply (ldA c arg1 arg2 A B 9 (by decide) rfl) $$ HA
  iintro HA
  iapply (st c arg3 (fun n => ex μ (seq A B n)) 9 (by decide) (k1_off1_eq c 9) (by rfl)) $$ HD
  iintro HD
  iapply (ldA c arg1 arg2 A B 10 (by decide) rfl) $$ HA
  iintro HA
  rw [wp_ret]
  imodintro
  iapply (Entails.of_eq (congrArg Kt (by rfl : ⟨ex μ (seq A B 10), Sx μ (seq A B) 11, Scalar.addi v195 5120#32⟩ = _)))
  iapply Hk
  isplitl [HA] <;> iassumption

theorem part10_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v195 : BitVec 32) (v327 : BitVec 32) (Kt : _ → sProp 𝕄) :
    iprop(AB c arg1 arg2 A B ∗ Hd c arg3 (fun n => ex μ (seq A B n)) 10)
      ⊢ iprop(((AB c arg1 arg2 A B ∗ Hd c arg3 (fun n => ex μ (seq A B n)) 14) -∗ Kt (Sx μ (seq A B) 14))
        -∗ wp frame (wpE (defs₀ (F := F)) 𝒱₀ (c : Thread nD τ) none) Set.univ (k1_part10 i arg1 harg1 arg2 harg2 arg3 harg3 c μ v195 (ex μ (seq A B 10)) (Sx μ (seq A B) 11) v327) Kt) := by
  rw [k1_part10_eq_skeleton]
  unfold k1_part10_skel
  simp only [Prog.lift, Prog.bind_op, Prog.bind_ret, Prog.pure_eq_ret]
  iintro ⟨HA, HD⟩ Hk
  iapply (st c arg3 (fun n => ex μ (seq A B n)) 10 (by decide) (k1_off1_eq c 10) (by rfl)) $$ HD
  iintro HD
  iapply (ldA c arg1 arg2 A B 11 (by decide) rfl) $$ HA
  iintro HA
  iapply (st c arg3 (fun n => ex μ (seq A B n)) 11 (by decide) (k1_off1_eq c 11) (by rfl)) $$ HD
  iintro HD
  iapply (ldA c arg1 arg2 A B 12 (by decide) rfl) $$ HA
  iintro HA
  iapply (st c arg3 (fun n => ex μ (seq A B n)) 12 (by decide) (k1_off1_eq c 12) (by rfl)) $$ HD
  iintro HD
  iapply (ldA c arg1 arg2 A B 13 (by decide) rfl) $$ HA
  iintro HA
  iapply (st c arg3 (fun n => ex μ (seq A B n)) 13 (by decide) (k1_off1_eq c 13) (by rfl)) $$ HD
  iintro HD
  rw [wp_ret]
  imodintro
  iapply (Entails.of_eq (congrArg Kt (by rfl : (Sx μ (seq A B) 14) = _)))
  iapply Hk
  isplitl [HA] <;> iassumption

theorem part11_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v195 : BitVec 32) (v197 : BitVec 32) (Kt : _ → sProp 𝕄) :
    iprop(AB c arg1 arg2 A B ∗ Hd c arg3 (fun n => ex μ (seq A B n)) 14)
      ⊢ iprop(((AB c arg1 arg2 A B ∗ Hd c arg3 (fun n => ex μ (seq A B n)) 17) -∗ Kt (Sx μ (seq A B) 17))
        -∗ wp frame (wpE (defs₀ (F := F)) 𝒱₀ (c : Thread nD τ) none) Set.univ (k1_part11 i arg1 harg1 arg2 harg2 arg3 harg3 c μ v195 v197 (Sx μ (seq A B) 14)) Kt) := by
  rw [k1_part11_eq_skeleton]
  unfold k1_part11_skel
  simp only [Prog.lift, Prog.bind_op, Prog.bind_ret, Prog.pure_eq_ret]
  iintro ⟨HA, HD⟩ Hk
  iapply (ldA c arg1 arg2 A B 14 (by decide) rfl) $$ HA
  iintro HA
  iapply (st c arg3 (fun n => ex μ (seq A B n)) 14 (by decide) (k1_off1_eq c 14) (by rfl)) $$ HD
  iintro HD
  iapply (ldA c arg1 arg2 A B 15 (by decide) rfl) $$ HA
  iintro HA
  iapply (st c arg3 (fun n => ex μ (seq A B n)) 15 (by decide) (k1_off1_eq c 15) (by rfl)) $$ HD
  iintro HD
  iapply (ldB c arg1 arg2 A B 16 (by decide) (by decide) rfl) $$ HA
  iintro HA
  iapply (st c arg3 (fun n => ex μ (seq A B n)) 16 (by decide) (k1_off2_eq c 0) (by rfl)) $$ HD
  iintro HD
  rw [wp_ret]
  imodintro
  iapply (Entails.of_eq (congrArg Kt (by rfl : (Sx μ (seq A B) 17) = _)))
  iapply Hk
  isplitl [HA] <;> iassumption

theorem part12_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v197 : BitVec 32) (Kt : _ → sProp 𝕄) :
    iprop(AB c arg1 arg2 A B ∗ Hd c arg3 (fun n => ex μ (seq A B n)) 17)
      ⊢ iprop(((AB c arg1 arg2 A B ∗ Hd c arg3 (fun n => ex μ (seq A B n)) 20) -∗ Kt ⟨Sx μ (seq A B) 20, cf (seq A B 20)⟩)
        -∗ wp frame (wpE (defs₀ (F := F)) 𝒱₀ (c : Thread nD τ) none) Set.univ (k1_part12 i arg1 harg1 arg2 harg2 arg3 harg3 c μ v197 (Sx μ (seq A B) 17)) Kt) := by
  rw [k1_part12_eq_skeleton]
  unfold k1_part12_skel
  simp only [Prog.lift, Prog.bind_op, Prog.bind_ret, Prog.pure_eq_ret]
  iintro ⟨HA, HD⟩ Hk
  iapply (ldB c arg1 arg2 A B 17 (by decide) (by decide) rfl) $$ HA
  iintro HA
  iapply (st c arg3 (fun n => ex μ (seq A B n)) 17 (by decide) (k1_off2_eq c 1) (by rfl)) $$ HD
  iintro HD
  iapply (ldB c arg1 arg2 A B 18 (by decide) (by decide) rfl) $$ HA
  iintro HA
  iapply (st c arg3 (fun n => ex μ (seq A B n)) 18 (by decide) (k1_off2_eq c 2) (by rfl)) $$ HD
  iintro HD
  iapply (ldB c arg1 arg2 A B 19 (by decide) (by decide) rfl) $$ HA
  iintro HA
  iapply (st c arg3 (fun n => ex μ (seq A B n)) 19 (by decide) (k1_off2_eq c 3) (by rfl)) $$ HD
  iintro HD
  iapply (ldB c arg1 arg2 A B 20 (by decide) (by decide) rfl) $$ HA
  iintro HA
  rw [wp_ret]
  imodintro
  iapply (Entails.of_eq (congrArg Kt (by rfl : ⟨Sx μ (seq A B) 20, cf (seq A B 20)⟩ = _)))
  iapply Hk
  isplitl [HA] <;> iassumption

theorem part13_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v197 : BitVec 32) (Kt : _ → sProp 𝕄) :
    iprop(AB c arg1 arg2 A B ∗ Hd c arg3 (fun n => ex μ (seq A B n)) 20)
      ⊢ iprop(((AB c arg1 arg2 A B ∗ Hd c arg3 (fun n => ex μ (seq A B n)) 23) -∗ Kt ⟨Sx μ (seq A B) 23, ex μ (seq A B 23)⟩)
        -∗ wp frame (wpE (defs₀ (F := F)) 𝒱₀ (c : Thread nD τ) none) Set.univ (k1_part13 i arg1 harg1 arg2 harg2 arg3 harg3 c μ v197 (Sx μ (seq A B) 20) (cf (seq A B 20))) Kt) := by
  rw [k1_part13_eq_skeleton]
  unfold k1_part13_skel
  simp only [Prog.lift, Prog.bind_op, Prog.bind_ret, Prog.pure_eq_ret]
  iintro ⟨HA, HD⟩ Hk
  iapply (st c arg3 (fun n => ex μ (seq A B n)) 20 (by decide) (k1_off2_eq c 4) (by rfl)) $$ HD
  iintro HD
  iapply (ldB c arg1 arg2 A B 21 (by decide) (by decide) rfl) $$ HA
  iintro HA
  iapply (st c arg3 (fun n => ex μ (seq A B n)) 21 (by decide) (k1_off2_eq c 5) (by rfl)) $$ HD
  iintro HD
  iapply (ldB c arg1 arg2 A B 22 (by decide) (by decide) rfl) $$ HA
  iintro HA
  iapply (st c arg3 (fun n => ex μ (seq A B n)) 22 (by decide) (k1_off2_eq c 6) (by rfl)) $$ HD
  iintro HD
  iapply (ldB c arg1 arg2 A B 23 (by decide) (by decide) rfl) $$ HA
  iintro HA
  rw [wp_ret]
  imodintro
  iapply (Entails.of_eq (congrArg Kt (by rfl : ⟨Sx μ (seq A B) 23, ex μ (seq A B 23)⟩ = _)))
  iapply Hk
  isplitl [HA] <;> iassumption

theorem part14_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v197 : BitVec 32) (Kt : _ → sProp 𝕄) :
    iprop(AB c arg1 arg2 A B ∗ Hd c arg3 (fun n => ex μ (seq A B n)) 23)
      ⊢ iprop(((AB c arg1 arg2 A B ∗ Hd c arg3 (fun n => ex μ (seq A B n)) 26) -∗ Kt ⟨Sx μ (seq A B) 26, ex μ (seq A B 26), sm1 (ex μ (seq A B 26))⟩)
        -∗ wp frame (wpE (defs₀ (F := F)) 𝒱₀ (c : Thread nD τ) none) Set.univ (k1_part14 i arg1 harg1 arg2 harg2 arg3 harg3 c μ v197 (Sx μ (seq A B) 23) (ex μ (seq A B 23))) Kt) := by
  rw [k1_part14_eq_skeleton]
  unfold k1_part14_skel
  simp only [Prog.lift, Prog.bind_op, Prog.bind_ret, Prog.pure_eq_ret]
  iintro ⟨HA, HD⟩ Hk
  iapply (st c arg3 (fun n => ex μ (seq A B n)) 23 (by decide) (k1_off2_eq c 7) (by rfl)) $$ HD
  iintro HD
  iapply (ldB c arg1 arg2 A B 24 (by decide) (by decide) rfl) $$ HA
  iintro HA
  iapply (st c arg3 (fun n => ex μ (seq A B n)) 24 (by decide) (k1_off2_eq c 8) (by rfl)) $$ HD
  iintro HD
  iapply (ldB c arg1 arg2 A B 25 (by decide) (by decide) rfl) $$ HA
  iintro HA
  iapply (st c arg3 (fun n => ex μ (seq A B n)) 25 (by decide) (k1_off2_eq c 9) (by rfl)) $$ HD
  iintro HD
  iapply (ldB c arg1 arg2 A B 26 (by decide) (by decide) rfl) $$ HA
  iintro HA
  rw [wp_ret]
  imodintro
  iapply (Entails.of_eq (congrArg Kt (by rfl : ⟨Sx μ (seq A B) 26, ex μ (seq A B 26), sm1 (ex μ (seq A B 26))⟩ = _)))
  iapply Hk
  isplitl [HA] <;> iassumption

theorem part15_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (μ : FVec F S64x1 .f32) (v197 : BitVec 32) (Kt : _ → sProp 𝕄) :
    iprop(AB c arg1 arg2 A B ∗ Hd c arg3 (fun n => ex μ (seq A B n)) 26)
      ⊢ iprop(((AB c arg1 arg2 A B ∗ Hd c arg3 (fun n => ex μ (seq A B n)) 29) -∗ Kt ⟨ex μ (seq A B 29), Sx μ (seq A B) 30, Scalar.addi v197 6656#32⟩)
        -∗ wp frame (wpE (defs₀ (F := F)) 𝒱₀ (c : Thread nD τ) none) Set.univ (k1_part15 i arg1 harg1 arg2 harg2 arg3 harg3 c μ v197 (Sx μ (seq A B) 26) (ex μ (seq A B 26)) (sm1 (ex μ (seq A B 26)))) Kt) := by
  rw [k1_part15_eq_skeleton]
  unfold k1_part15_skel
  simp only [Prog.lift, Prog.bind_op, Prog.bind_ret, Prog.pure_eq_ret]
  iintro ⟨HA, HD⟩ Hk
  iapply (st c arg3 (fun n => ex μ (seq A B n)) 26 (by decide) (k1_off2_eq c 10) (by rfl)) $$ HD
  iintro HD
  iapply (ldB c arg1 arg2 A B 27 (by decide) (by decide) rfl) $$ HA
  iintro HA
  iapply (st c arg3 (fun n => ex μ (seq A B n)) 27 (by decide) (k1_off2_eq c 11) (by rfl)) $$ HD
  iintro HD
  iapply (ldB c arg1 arg2 A B 28 (by decide) (by decide) rfl) $$ HA
  iintro HA
  iapply (st c arg3 (fun n => ex μ (seq A B n)) 28 (by decide) (k1_off2_eq c 12) (by rfl)) $$ HD
  iintro HD
  iapply (ldB c arg1 arg2 A B 29 (by decide) (by decide) rfl) $$ HA
  iintro HA
  rw [wp_ret]
  imodintro
  iapply (Entails.of_eq (congrArg Kt (by rfl : ⟨ex μ (seq A B 29), Sx μ (seq A B) 30, Scalar.addi v197 6656#32⟩ = _)))
  iapply Hk
  isplitl [HA] <;> iassumption

/-- The body at a row block leaves the softmax of its rows. -/
theorem cc1_run (i : grid1.Coords) (arg1 : Memref sig .tc .vmem S16x64x512 .bf16) (harg1 : arg1.IsWhole) (arg2 : Memref sig .tc .vmem S16x64x512 .bf16) (harg2 : arg2.IsWhole) (arg3 : Memref sig .tc .vmem S64x16384 .f32) (harg3 : arg3.IsWhole)
    (Kt : PUnit → sProp 𝕄) :
    iprop(AB c arg1 arg2 A B ∗ ∃ X, owns (c : Thread nD τ) arg3 fullShare X)
      ⊢ iprop(((AB c arg1 arg2 A B ∗ owns (c : Thread nD τ) arg3 fullShare (softv c A B)) -∗ Kt ⟨⟩)
        -∗ wp frame (wpE (defs₀ (F := F)) 𝒱₀ (c : Thread nD τ) none) Set.univ (cc1_body i arg1 harg1 arg2 harg2 arg3 harg3) Kt) := by
  rw [cc1_body_eq_skeleton]
  unfold cc1_body_skel
  rw [k1_part16_eq_skeleton]
  unfold k1_part16_skel
  simp only [Prog.lift, Prog.bind_op, Prog.bind_ret, Prog.pure_eq_ret, Prog.bind_assoc]
  iintro ⟨HA, ⟨%X, HX⟩⟩ Hk
  ihave HD : Hd c arg3 (fun n => ex (Mx (seq A B) 31) (seq A B n)) 0 $$ [HX]
  · unfold Hd; iexists X; isplitr; · ipureintro; exact Agr_zero _ _ _
    iexact HX
  rw [wp_bind]
  iapply (part1_run c A B i arg1 harg1 arg2 harg2 arg3 harg3  _) $$ [HA]
  · iexact HA
  iintro HA
  rw [wp_bind]
  iapply (part2_run c A B i arg1 harg1 arg2 harg2 arg3 harg3  _) $$ [HA]
  · iexact HA
  iintro HA
  rw [wp_bind]
  iapply (part3_run c A B i arg1 harg1 arg2 harg2 arg3 harg3  _) $$ [HA]
  · iexact HA
  iintro HA
  rw [wp_bind]
  iapply (part4_run c A B i arg1 harg1 arg2 harg2 arg3 harg3  _) $$ [HA]
  · iexact HA
  iintro HA
  rw [wp_bind]
  iapply (part5_run c A B i arg1 harg1 arg2 harg2 arg3 harg3  _) $$ [HA]
  · iexact HA
  iintro HA
  rw [wp_bind]
  iapply (part6_run c A B i arg1 harg1 arg2 harg2 arg3 harg3 _ _) $$ [HA HD]
  · isplitl [HA] <;> iassumption
  iintro ⟨HA, HD⟩
  rw [wp_bind]
  iapply (part7_run c A B i arg1 harg1 arg2 harg2 arg3 harg3 (Mx (seq A B) 31) _ _) $$ [HA HD]
  · isplitl [HA] <;> iassumption
  iintro ⟨HA, HD⟩
  rw [wp_bind]
  iapply (part8_run c A B i arg1 harg1 arg2 harg2 arg3 harg3 (Mx (seq A B) 31) _ _) $$ [HA HD]
  · isplitl [HA] <;> iassumption
  iintro ⟨HA, HD⟩
  rw [wp_bind]
  iapply (part9_run c A B i arg1 harg1 arg2 harg2 arg3 harg3 (Mx (seq A B) 31) _ _) $$ [HA HD]
  · isplitl [HA] <;> iassumption
  iintro ⟨HA, HD⟩
  rw [wp_bind]
  iapply (part10_run c A B i arg1 harg1 arg2 harg2 arg3 harg3 (Mx (seq A B) 31) _ _ _) $$ [HA HD]
  · isplitl [HA] <;> iassumption
  iintro ⟨HA, HD⟩
  rw [wp_bind]
  iapply (part11_run c A B i arg1 harg1 arg2 harg2 arg3 harg3 (Mx (seq A B) 31) _ _ _) $$ [HA HD]
  · isplitl [HA] <;> iassumption
  iintro ⟨HA, HD⟩
  rw [wp_bind]
  iapply (part12_run c A B i arg1 harg1 arg2 harg2 arg3 harg3 (Mx (seq A B) 31) _ _) $$ [HA HD]
  · isplitl [HA] <;> iassumption
  iintro ⟨HA, HD⟩
  rw [wp_bind]
  iapply (part13_run c A B i arg1 harg1 arg2 harg2 arg3 harg3 (Mx (seq A B) 31) _ _) $$ [HA HD]
  · isplitl [HA] <;> iassumption
  iintro ⟨HA, HD⟩
  rw [wp_bind]
  iapply (part14_run c A B i arg1 harg1 arg2 harg2 arg3 harg3 (Mx (seq A B) 31) _ _) $$ [HA HD]
  · isplitl [HA] <;> iassumption
  iintro ⟨HA, HD⟩
  rw [wp_bind]
  iapply (part15_run c A B i arg1 harg1 arg2 harg2 arg3 harg3 (Mx (seq A B) 31) _ _) $$ [HA HD]
  · isplitl [HA] <;> iassumption
  iintro ⟨HA, HD⟩
  iapply (st c arg3 (fun n => ex (Mx (seq A B) 31) (seq A B n)) 29 (by decide) (k1_off2_eq c 13) (by rfl)) $$ HD
  iintro HD
  iapply (ldB c arg1 arg2 A B 30 (by decide) (by decide) rfl) $$ HA
  iintro HA
  iapply (st c arg3 (fun n => ex (Mx (seq A B) 31) (seq A B n)) 30 (by decide) (k1_off2_eq c 14) (by rfl)) $$ HD
  iintro HD
  iapply (ldB c arg1 arg2 A B 31 (by decide) (by decide) rfl) $$ HA
  iintro HA
  iapply (st c arg3 (fun n => ex (Mx (seq A B) 31) (seq A B n)) 31 (by decide) (k1_off2_eq c 15) (by rfl)) $$ HD
  iintro HD
  iapply (fin c arg3 (fun n => ex (Mx (seq A B) 31) (seq A B n))) $$ HD
  iintro HD
  iapply Hk
  isplitl [HA]; · iexact HA
  iexact HD

end Cert.KernelIdeal.Proof

end
-- ==== Proof.Region1.lean ====
/-
  The softmax as a pipeline: what each point reads of the two halves, what it leaves, and that the body does so.
-/
module

public import proofs.«01_k».proof.Proof.Softmax

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The row block the device's own half has at a point. -/
def lblk (c : Dev nD) (t : Fin grid1.N) : Vec F S16x64x512 .bf16 := (win1_0.blk t).view.read (Elt F) (lfin m c)
/-- The row block the received half has at a point. -/
def oblk (c : Dev nD) (t : Fin grid1.N) : Vec F S16x64x512 .bf16 := (win1_1.blk t).view.read (Elt F) (ofin m c)

/-- The scoped buffers this pipeline does not stage. -/
abbrev slots1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- The softmax's proof data: row blocks of the two halves come in, the row block's softmax goes out. -/
def dat1 (c : Dev nD) : Dat τ (Elt F) Unit ℕ UU ℕ cfg1 c where
  A := fun
    | 0 => lfin m c
    | 1 => ofin m c
    | 2 => m ((c : Thread nD τ).loc main_v2)
  after := fun
    | 0 => fun t => lblk m c t
    | 1 => fun t => oblk m c t
    | 2 => fun t => softv c (lblk m c t) (oblk m c t)
  Φ _ := iprop(slots1 c ∗ ∃ r, prngReg c r)
  q _ := fullShare
  owed _ := 0

theorem before1_0 (c : Dev nD) (t : Fin cfg1.N) (d) : (dat1 m c).before 0 t d = lblk m c t := by
  unfold Dat.before; rw [if_pos (fetch1_0 t)]; rfl
theorem before1_1 (c : Dev nD) (t : Fin cfg1.N) (d) : (dat1 m c).before 1 t d = oblk m c t := by
  unfold Dat.before; rw [if_pos (fetch1_1 t)]; rfl

/-- The body at every point leaves the softmax of its row block. -/
theorem body1 (c : Dev nD) : BodyObligation (dat1 m c) defs₀ 𝒱₀ () Set.univ := fun t => by
  rw [bigSep_W1, bigSep_W1]
  show iprop(iprop(slots1 c ∗ ∃ r, prngReg c r) ∗ (dat1 m c).owesAt () t.castSucc
      ∗ ((∃ d, owns (c : Thread nD τ) (win1_0.stage (cfg1.slots t 0)) fullShare ((dat1 m c).before 0 t d))
        ∗ (∃ d, owns (c : Thread nD τ) (win1_1.stage (cfg1.slots t 1)) fullShare ((dat1 m c).before 1 t d))
        ∗ (∃ d, owns (c : Thread nD τ) (win1_2.stage (cfg1.slots t 2)) fullShare ((dat1 m c).before 2 t d))))
    ⊢ wp frame (wpE defs₀ 𝒱₀ (c : Thread nD τ) none) Set.univ (bodyAt1 t) fun _ =>
      iprop(iprop(slots1 c ∗ ∃ r, prngReg c r) ∗ (dat1 m c).owesAt () t.succ
      ∗ (owns (c : Thread nD τ) (win1_0.stage (cfg1.slots t 0)) fullShare (lblk m c t)
        ∗ owns (c : Thread nD τ) (win1_1.stage (cfg1.slots t 1)) fullShare (oblk m c t)
        ∗ owns (c : Thread nD τ) (win1_2.stage (cfg1.slots t 2)) fullShare (softv c (lblk m c t) (oblk m c t))))
  iintro ⟨HS, HO, ⟨%d0, H0⟩, ⟨%d1, H1⟩, ⟨%d2, H2⟩⟩
  rw [before1_0, before1_1]
  ihave HO' := (owes_out (dat1 m c) t.castSucc) $$ HO
  iapply (cc1_run c (lblk m c t) (oblk m c t) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) _) $$ [H0 H1 H2]
  · isplitl [H0 H1]
    · unfold AB; isplitl [H0] <;> iassumption
    iexists _; iexact H2
  unfold AB
  iintro ⟨⟨H0, H1⟩, H2⟩
  isplitl [HS]; · iexact HS
  isplitl [HO']
  · iapply (owes_in (dat1 m c) t.succ rfl); iexact HO'
  isplitl [H0]; · iexact H0
  isplitl [H1] <;> iassumption

end Cert.KernelIdeal.Proof

end
-- ==== Proof.Deal.lean ====
/-
  What the launch deals to each device for the exchange: the rights to its own cells, the tokens of the duties it pays, and the credits
  it waits with.
-/
module

public import proofs.«01_k».proof.Proof.Region1

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The tokens -/

/-- The duties of one device's cells: the barrier's two, one for each arrival and sending, and the sixteen of the local copy. -/
abbrev TK : Type := Bool ⊕ (Fin 4 × Fin 16) ⊕ Fin 16
/-- The semaphore a duty is at. -/
def tkSem : TK → SemLoc sig
  | .inl _ => .reg barS
  | .inr (.inl p) => .dma (famS p.1 p.2)
  | .inr (.inr _) => .dma cpS
/-- A duty's round. -/
def tkRnd : TK → ℕ
  | .inr (.inr k) => k.val
  | _ => 0
/-- A duty's name in its round. -/
def tkDut : TK → Bool
  | .inl b => b
  | _ => false

theorem tk_inj {x y : TK} (h1 : tkSem x = tkSem y) (h2 : tkRnd x = tkRnd y) (h3 : tkDut x = tkDut y) : x = y := by
  rcases x with b | p | k <;> rcases y with b' | p' | k'
  · exact congrArg _ h3
  · exact absurd h1 (fun h => by cases h)
  · exact absurd h1 (fun h => by cases h)
  · exact absurd h1 (fun h => by cases h)
  · have h : (Sum.inr p : OS) = .inr p' := osem_inj h1
    rw [Sum.inr.inj h]
  · have h : (Sum.inr p : OS) = .inl () := osem_inj h1
    cases h
  · exact absurd h1 (fun h => by cases h)
  · have h : (Sum.inl () : OS) = .inr p' := osem_inj h1
    cases h
  · exact congrArg (fun k => Sum.inr (Sum.inr k)) (Fin.ext h2)

/-- Every duty of every device's cells. -/
def toks : Finset (GSem nD τ sig × ℕ × Bool) :=
  Finset.univ.map ⟨fun p : Dev nD × TK => (((p.1 : Thread nD τ), tkSem p.2), tkRnd p.2, tkDut p.2), fun _ _ h =>
    Prod.ext (congrArg (fun t : GSem nD τ sig × ℕ × Bool => t.1.1.1) h)
      (tk_inj (congrArg (fun t : GSem nD τ sig × ℕ × Bool => t.1.2) h) (congrArg (fun t : GSem nD τ sig × ℕ × Bool => t.2.1) h)
        (congrArg (fun t : GSem nD τ sig × ℕ × Bool => t.2.2) h))⟩

/-- One thing for each family. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- Things over a device's own cells, family by family. -/
theorem over_own (Φ : OS → sProp 𝕄) : bigSep Finset.univ Φ = iprop(Φ (.inl ()) ∗ (bigSep Finset.univ fun k : Fin 16 => Φ (.inr (0, k)))
    ∗ (bigSep Finset.univ fun k : Fin 16 => Φ (.inr (1, k))) ∗ (bigSep Finset.univ fun k : Fin 16 => Φ (.inr (2, k))) ∗ bigSep Finset.univ fun k : Fin 16 => Φ (.inr (3, k))) := by
  rw [BI.bigSep_univ_sum, BI.bigSep_univ_prod, four, show (Finset.univ : Finset Unit) = {()} from rfl, bigSep_singleton]
  rfl

/-- The tokens of one device's cells. -/
def tokOf (c : Dev nD) : sProp 𝕄 :=
  iprop(dutyTok ER (barC c) 0 false ∗ dutyTok ER (barC c) 0 true
    ∗ (bigSep Finset.univ fun k : Fin 16 => dutyTok ER (xsC c k) 0 false) ∗ (bigSep Finset.univ fun k : Fin 16 => dutyTok ER (xrC c k) 0 false)
    ∗ (bigSep Finset.univ fun k : Fin 16 => dutyTok ER (ysC c k) 0 false) ∗ (bigSep Finset.univ fun k : Fin 16 => dutyTok ER (yrC c k) 0 false)
    ∗ bigSep Finset.univ fun k : Fin 16 => dutyTok ER (cpC c) k.val false)
/-- The tokens of the duties one device pays. -/
def paid (c : Dev nD) : sProp 𝕄 :=
  iprop(dutyTok ER (barC (xn c)) 0 false ∗ dutyTok ER (barC (yn c)) 0 true
    ∗ (bigSep Finset.univ fun k : Fin 16 => dutyTok ER (xsC c k) 0 false) ∗ (bigSep Finset.univ fun k : Fin 16 => dutyTok ER (xrC (xn c) k) 0 false)
    ∗ (bigSep Finset.univ fun k : Fin 16 => dutyTok ER (ysC c k) 0 false) ∗ (bigSep Finset.univ fun k : Fin 16 => dutyTok ER (yrC (yn c) k) 0 false)
    ∗ bigSep Finset.univ fun k : Fin 16 => dutyTok ER (cpC c) k.val false)

theorem toks_eq : bigSep toks (fun x => (dutyTok ER x.1 x.2.1 x.2.2 : sProp 𝕄)) = bigSep Finset.univ fun c : Dev nD => tokOf c := by
  unfold toks; rw [bigSep_map, BI.bigSep_univ_prod]
  refine bigSep_congr fun c _ => ?_
  rw [BI.bigSep_univ_sum, BI.bigSep_univ_sum, BI.bigSep_univ_prod, four,
    bigSep_univ_eq_bigSepL [false, true] (by decide) (by decide)]
  refine BI.equiv_iff.mp ⟨?_, ?_⟩
  · unfold tokOf
    refine (show (iprop((dutyTok ER (barC c) 0 false ∗ dutyTok ER (barC c) 0 true)
      ∗ ((bigSep Finset.univ fun k : Fin 16 => dutyTok ER (xsC c k) 0 false) ∗ (bigSep Finset.univ fun k : Fin 16 => dutyTok ER (xrC c k) 0 false)
        ∗ (bigSep Finset.univ fun k : Fin 16 => dutyTok ER (ysC c k) 0 false) ∗ (bigSep Finset.univ fun k : Fin 16 => dutyTok ER (yrC c k) 0 false))
      ∗ bigSep Finset.univ fun k : Fin 16 => dutyTok ER (cpC c) k.val false) : sProp 𝕄) ⊢ _ from ?_)
    iintro ⟨⟨H1, H2⟩, ⟨H3, H4, H5, H6⟩, H7⟩
    isplitl [H1]; · iexact H1
    isplitl [H2]; · iexact H2
    isplitl [H3]; · iexact H3
    isplitl [H4]; · iexact H4
    isplitl [H5]; · iexact H5
    isplitl [H6] <;> iassumption
  · unfold tokOf
    refine (show _ ⊢ (iprop((dutyTok ER (barC c) 0 false ∗ dutyTok ER (barC c) 0 true)
      ∗ ((bigSep Finset.univ fun k : Fin 16 => dutyTok ER (xsC c k) 0 false) ∗ (bigSep Finset.univ fun k : Fin 16 => dutyTok ER (xrC c k) 0 false)
        ∗ (bigSep Finset.univ fun k : Fin 16 => dutyTok ER (ysC c k) 0 false) ∗ (bigSep Finset.univ fun k : Fin 16 => dutyTok ER (yrC c k) 0 false))
      ∗ bigSep Finset.univ fun k : Fin 16 => dutyTok ER (cpC c) k.val false) : sProp 𝕄) from ?_)
    iintro ⟨H1, H2, H3, H4, H5, H6, H7⟩
    isplitl [H1 H2]; · isplitl [H1] <;> iassumption
    isplitr [H7]
    · isplitl [H3]; · iexact H3
      isplitl [H4]; · iexact H4
      isplitl [H5] <;> iassumption
    iexact H7

/-- The barrier's and the arrivals' tokens, handed to the neighbours who pay them. -/
theorem toks_around : (bigSep Finset.univ fun c : Dev nD => (tokOf c : sProp 𝕄)) ⊢ bigSep Finset.univ fun c : Dev nD => paid c := by
  unfold tokOf paid
  simp only [bigSep_sep']
  rw [BI.bigSep_univ_equiv xnE (fun c : Dev nD => (dutyTok ER (barC c) 0 false : sProp 𝕄)),
    BI.bigSep_univ_equiv ynE (fun c : Dev nD => (dutyTok ER (barC c) 0 true : sProp 𝕄)),
    BI.bigSep_univ_equiv xnE (fun c : Dev nD => (bigSep Finset.univ fun k : Fin 16 => dutyTok ER (xrC c k) 0 false : sProp 𝕄)),
    BI.bigSep_univ_equiv ynE (fun c : Dev nD => (bigSep Finset.univ fun k : Fin 16 => dutyTok ER (yrC c k) 0 false : sProp 𝕄))]
  exact BI.Entails.refl _

/-! ## The credits -/

/-- What a device waits with from the start. -/
def creds (c : Dev nD) : sProp 𝕄 :=
  iprop(cred (tallyAt (barC c) () 2) ∗ (bigSep Finset.univ fun k : Fin 16 => cred (tallyAt (xrC c k) () Nh)) ∗ bigSep Finset.univ fun k : Fin 16 => cred (tallyAt (yrC c k) () Nh))

theorem owX_zero (c : Dev nD) : owX c 0 = ∑ k : Fin 16, tallyAt (xrC (xn c) k) () Nh := Finset.sum_congr rfl fun _ _ => if_pos (Nat.zero_le _)
theorem owY_zero (c : Dev nD) : owY c 0 = ∑ k : Fin 16, tallyAt (yrC (yn c) k) () Nh := Finset.sum_congr rfl fun _ _ => if_pos (Nat.zero_le _)

/-- What the devices owe a device's cells is its credit. -/
theorem creds_intro (c : Dev nD) : (Pipeline.launchCred O₀ c : sProp 𝕄) ⊢ creds c := by
  rw [show O₀ = fun d : Dev nD => (((∑ k : Fin 16, tallyAt (xrC (xn d) k) () Nh) + ∑ k : Fin 16, tallyAt (yrC (yn d) k) () Nh) + tallyAt (barC (yn d)) () 1) + tallyAt (barC (xn d)) () 1
    from funext fun d => by unfold O₀; rw [owX_zero, owY_zero]]
  rw [Pipeline.launchCred_add, Pipeline.launchCred_add, Pipeline.launchCred_add, Pipeline.launchCred_sum, Pipeline.launchCred_sum]
  unfold creds
  iintro ⟨⟨⟨HX, HY⟩, Hy⟩, Hx⟩
  ihave Hy := (Pipeline.launchCred_tallyAt (SemLoc.reg barS) yn yn yn_yn yn_yn () 1 c) $$ Hy
  ihave Hx := (Pipeline.launchCred_tallyAt (SemLoc.reg barS) xn xn xn_xn xn_xn () 1 c) $$ Hx
  isplitl [Hy Hx]
  · rw [show (tallyAt (barC c) () 2 : CellTallies nD τ sig Unit) = tallyAt (barC c) () 1 + tallyAt (barC c) () 1 from (tallyAt_add _ _ 1 1).symm]
    iapply (cred_add _ _).2
    isplitl [Hy]; · iexact Hy
    iexact Hx
  isplitl [HX]
  · iapply (show (bigSep Finset.univ fun k : Fin 16 => Pipeline.launchCred (fun d : Dev nD => tallyAt (xrC (xn d) k) () Nh) c) ⊢ (bigSep Finset.univ fun k : Fin 16 => cred (tallyAt (xrC c k) () Nh) : sProp 𝕄) from
      bigSep_mono fun k _ => Pipeline.launchCred_tallyAt (SemLoc.dma (xrS k)) xn xn xn_xn xn_xn () Nh c)
    iexact HX
  · iapply (show (bigSep Finset.univ fun k : Fin 16 => Pipeline.launchCred (fun d : Dev nD => tallyAt (yrC (yn d) k) () Nh) c) ⊢ (bigSep Finset.univ fun k : Fin 16 => cred (tallyAt (yrC c k) () Nh) : sProp 𝕄) from
      bigSep_mono fun k _ => Pipeline.launchCred_tallyAt (SemLoc.dma (yrS k)) yn yn yn_yn yn_yn () Nh c)
    iexact HY

/-! ## Until the exchange starts -/

/-- What every device may consult: the cells' invariants, and that the barriers are open. -/
def records (κ : GSem nD τ sig → ℕ) : sProp 𝕄 := iprop((bigSep cells fun g => cellInv ER (rd m) (κ g) g) ∗ bigSep barCells fun g => reached ER g 0)
instance records_persistent (κ : GSem nD τ sig → ℕ) : BI.Persistent (records m κ) := by unfold records; infer_instance

/-- What one device holds of the protocol. -/
def linear (c : Dev nD) : sProp 𝕄 :=
  iprop(atPos ER (barC c) 0 ∅ 0 ∗ (bigSep Finset.univ fun o : OS => openTok ER ((c : Thread nD τ), osem o)) ∗ paid c)

/-- What a device brings to the exchange. -/
def Tk (c : Dev nD) : sProp 𝕄 := iprop((∃ κ, records m κ ∗ linear c) ∗ creds c)
/-- The same with its own cells open. -/
def Op (c : Dev nD) : sProp 𝕄 :=
  iprop(creds c ∗ atPos ER (barC c) 0 ∅ 0 ∗ (reached ER (barC (xn c)) 0 ∗ reached ER (barC (yn c)) 0)
    ∗ (bigSep Finset.univ fun o : OS => iprop(atPos ER ((c : Thread nD τ), osem o) 0 ∅ 0 ∗ reached ER ((c : Thread nD τ), osem o) 0)) ∗ paid c)
def Xk (c : Dev nD) : sProp 𝕄 := iprop((∃ κ, Inv m κ) ∗ Op c)

theorem inv_rec (κ : GSem nD τ sig → ℕ) {g : GSem nD τ sig} (hg : g ∈ cells) : records m κ ⊢ cellInv ER (rd m) (κ g) g := by
  unfold records
  iintro ⟨H, -⟩
  iapply (show (bigSep cells fun g => (cellInv ER (rd m) (κ g) g : sProp 𝕄)) ⊢ cellInv ER (rd m) (κ g) g from bigSep_elim hg)
  iexact H
theorem reached_rec (κ : GSem nD τ sig → ℕ) (c : Dev nD) : records m κ ⊢ reached ER (barC c) 0 := by
  unfold records
  iintro ⟨-, H⟩
  iapply (show (bigSep barCells fun g => (reached ER g 0 : sProp 𝕄)) ⊢ reached ER (barC c) 0 from bigSep_elim (Finset.mem_map_of_mem barEmb (Finset.mem_univ c)))
  iexact H

/-- Its counters at zero, a device opens its own cells. -/
theorem open_own (c : Dev nD) : iprop(Tk m c ∗ Pipeline.ownSems0 osem c ∗ levAts L lv) ⊢ (|={Set.univ}=> Xk m c : sProp 𝕄) := by
  unfold Tk Xk Op linear Inv
  iintro ⟨⟨⟨%κ, #HR, Hat, Hop, Hpd⟩, Hcr⟩, Hos, #Hlev⟩
  ihave Hci := (show iprop(records m κ ∗ bigSep Finset.univ fun o : OS => openTok ER ((c : Thread nD τ), osem o))
      ⊢ (bigSep Finset.univ fun o : OS => iprop(cellInv ER (rd m) (κ ((c : Thread nD τ), osem o)) ((c : Thread nD τ), osem o) ∗ openTok ER ((c : Thread nD τ), osem o)) : sProp 𝕄) from
    BI.bigSep_with_persistent fun o _ => sep_mono_left (inv_rec m κ (own_mem c o))) $$ [Hop]
  · isplitr; · iexact HR
    iexact Hop
  imod (Rounds.cells_open ER (rd m) Finset.univ (fun o : OS => ((c : Thread nD τ), osem o)) (fun o => κ ((c : Thread nD τ), osem o)) (fun _ _ => Set.mem_univ _)) $$ [Hci Hos] with Ho
  · isplitl [Hci]; · iexact Hci
    unfold Pipeline.ownSems0
    iexact Hos
  imodintro
  isplitr
  · iexists κ
    isplitr
    · unfold records; icases HR with ⟨HI, -⟩; iexact HI
    iexact Hlev
  isplitl [Hcr]; · iexact Hcr
  isplitl [Hat]; · iexact Hat
  isplitr
  · isplitr
    · iapply (reached_rec m κ (xn c)); iexact HR
    iapply (reached_rec m κ (yn c)); iexact HR
  isplitl [Ho] <;> iassumption

/-- What a device brings, the halves of its two buffers of chunks and the scratch make what it holds before the first point. -/
theorem start_intro (c : Dev nD) (fl fo : Chunks F) :
    iprop(Op c ∗ (lM.view.loc (c : Thread nD τ) ↦{fullShare} fl) ∗ (oM.view.loc (c : Thread nD τ) ↦{fullShare} fo) ∗ ∃ f, aPt c f) ⊢ (Start' m c : sProp 𝕄) := by
  unfold Op Start' barPre cpI LP LU Cst creds paid
  rw [stages_zero, stages_zero, show (bigSep Finset.univ fun _ : Fin 16 => (iprop(emp) : sProp 𝕄)) = iprop(emp) from BI.bigSep_emp_const _, over_own, l_blocks, o_blocks, BI.bigSep_univ_prod,
    show (xT0 c : Fin 16 → sProp 𝕄) = fun k => iprop(dutyTok ER (xsC c k) 0 false ∗ reached ER (xsC c k) 0 ∗ dutyTok ER (xrC (xn c) k) 0 false) from rfl,
    show (yT0 c : Fin 16 → sProp 𝕄) = fun k => iprop(dutyTok ER (ysC c k) 0 false ∗ reached ER (ysC c k) 0 ∗ dutyTok ER (yrC (yn c) k) 0 false ∗ cred (tallyAt (xrC c k) () Nh) ∗ atPos ER (xrC c k) 0 ∅ 0) from rfl,
    show (lU c : Fin 16 → sProp 𝕄) = fun k => iprop((∃ f, lcPt c k f) ∗ dutyTok ER (cpC c) k.val false) from rfl,
    bigSep_congr (s := Finset.univ) (Φ := fun k : Fin 16 => bigSep Finset.univ fun y : Fin 2 => oPt c k y fo) (Ψ := fun k : Fin 16 => iprop(oPt c k (ym c) fo ∗ oPt c k (flip (ym c)) fo))
      (fun k _ => pair2 (ym c) fun y => oPt c k y fo)]
  simp only [bigSep_sep']
  iintro ⟨⟨⟨Hb2, Hcx, Hcy⟩, Hat, ⟨Hrx, Hry⟩, ⟨⟨Hcp, Hcpr⟩, ⟨Hxs, Hxsr⟩, ⟨Hxr, Hxrr⟩, ⟨Hys, Hysr⟩, ⟨Hyr, Hyrr⟩⟩, Htb, Htb', Htxs, Htxr, Htys, Htyr, Htcp⟩, Hl, ⟨Ho, Ho'⟩, Ha⟩
  isplitr [Hcp Hcpr Ha Hl Htcp Hxs Hys Hcy Hyr]
  · isplitl [Hat]; · iexact Hat
    isplitl [Hb2]; · iexact Hb2
    isplitl [Hrx Htb]; · isplitl [Hrx] <;> iassumption
    isplitl [Hry Htb']; · isplitl [Hry] <;> iassumption
    isplitl [Ho Hxrr]
    · isplitl [Ho]
      · iapply (show (bigSep Finset.univ fun k : Fin 16 => oPt c k (ym c) fo) ⊢ (bigSep Finset.univ fun k : Fin 16 => iprop(∃ f, oPt c k (ym c) f) : sProp 𝕄) from
          bigSep_mono fun k _ => (show (oPt c k (ym c) fo : sProp 𝕄) ⊢ iprop(∃ f, oPt c k (ym c) f) from by iintro H; iexists fo; iexact H))
        iexact Ho
      iexact Hxrr
    isplitl [Ho' Hyrr]
    · isplitl [Ho']
      · iapply (show (bigSep Finset.univ fun k : Fin 16 => oPt c k (flip (ym c)) fo) ⊢ (bigSep Finset.univ fun k : Fin 16 => iprop(∃ f, oPt c k (flip (ym c)) f) : sProp 𝕄) from
          bigSep_mono fun k _ => (show (oPt c k (flip (ym c)) fo : sProp 𝕄) ⊢ iprop(∃ f, oPt c k (flip (ym c)) f) from by iintro H; iexists fo; iexact H))
        iexact Ho'
      iexact Hyrr
    isplitl [Htxs Hxsr Htxr]
    · isplitl [Htxs]; · iexact Htxs
      isplitl [Hxsr]; · iexact Hxsr
      iexact Htxr
    isplitl [Htys]; · iexact Htys
    isplitl [Hysr]; · iexact Hysr
    isplitl [Htyr]; · iexact Htyr
    isplitl [Hcx]; · iexact Hcx
    iexact Hxr
  isplitl [Hcp Hcpr Ha]
  · isplitl [Hcp]; · iexact Hcp
    isplitl [Hcpr]; · iexact Hcpr
    iexact Ha
  isplitr; · iempintro
  isplitl [Hl Htcp]
  · isplitl [Hl]
    · iapply (show (bigSep Finset.univ fun k : Fin 16 => lcPt c k fl) ⊢ (bigSep Finset.univ fun k : Fin 16 => iprop(∃ f, lcPt c k f) : sProp 𝕄) from
        bigSep_mono fun k _ => (show (lcPt c k fl : sProp 𝕄) ⊢ iprop(∃ f, lcPt c k f) from by iintro H; iexists fl; iexact H))
      iexact Hl
    iexact Htcp
  isplitl [Hxs]; · iexact Hxs
  isplitl [Hys]; · iexact Hys
  isplitl [Hcy]; · iexact Hcy
  iexact Hyr

end Cert.KernelIdeal.Proof

end
-- ==== Proof.Run.lean ====
/-
  The run of the whole program: the exchange's region, the softmax's region, the launch, and what every final memory holds.
-/
module

public import proofs.«01_k».proof.Proof.Deal
public import Idealize.ShloMosaic.Lib.Pipeline.RegionArraysS

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The two regions -/

/-- The proof data of the two pipelines. -/
def pdats : (p : Fin 2) → (c : Dev nD) → Dat τ (Elt F) Unit ℕ UU ℕ (cfgs p) c
  | 0 => dat0 m
  | 1 => dat1 m

/-- A device's buffers between the regions: its own half of the logits and the half received. -/
def VA (c : Dev nD) : Valuation τ sig (Elt F) := Function.update (Function.update (V0 m c) main_v1_0 (lfin m c)) main_v1_1 (ofin m c)
/-- A device's buffers at the end. -/
def VB (c : Dev nD) : Valuation τ sig (Elt F) := Pipeline.afterRegion (dat1 m c) (VA m c)

theorem VA_l (c : Dev nD) : VA m c (Proc.devRef .tc main_v1_0) = lfin m c := by
  unfold VA; rw [Function.update_of_ne (StableHlo.devRef_ne_of_ne (by decide)), Function.update_self]
theorem VA_o (c : Dev nD) : VA m c (Proc.devRef .tc main_v1_1) = ofin m c := by unfold VA; rw [Function.update_self]
theorem VA_off (c : Dev nD) (b : DevRef τ sig) (h0 : b ≠ Proc.devRef .tc main_v1_0) (h1 : b ≠ Proc.devRef .tc main_v1_1) : VA m c b = V0 m c b := by
  unfold VA; rw [Function.update_of_ne h1, Function.update_of_ne h0]

/-- The exchange's own two buffers. -/
abbrev HX : Finset (DevRef τ sig) := {Proc.devRef .tc main_v1_0, Proc.devRef .tc main_v1_1}
theorem held_HX (c : Dev nD) (V : Valuation τ sig (Elt F)) :
    (StableHlo.held (c : Thread nD τ) HX V : sProp 𝕄) = iprop((lM.view.loc (c : Thread nD τ) ↦{fullShare} V (Proc.devRef .tc main_v1_0)) ∗ (oM.view.loc (c : Thread nD τ) ↦{fullShare} V (Proc.devRef .tc main_v1_1))) := by
  unfold StableHlo.held; rw [bigSep_eq_bigSepL_of_eq [Proc.devRef .tc main_v1_0, Proc.devRef .tc main_v1_1] (by decide) (by decide)]; rfl

theorem arr0_sub : Pipeline.arrRefs (τ := τ) (pcfgs (F := F) 0).spec ⊆ Pipeline.ucRefs τ sig := (by decide : Pipeline.arrRefs (τ := τ) spec0 ⊆ Pipeline.ucRefs τ sig)
theorem arr1_sub : Pipeline.arrRefs (τ := τ) (pcfgs (F := F) 1).spec ⊆ Pipeline.ucRefs τ sig := (by decide : Pipeline.arrRefs (τ := τ) spec1 ⊆ Pipeline.ucRefs τ sig)

/-- What a device owes at any point lies above the staging cells. -/
theorem cut0 (c : Dev nD) (n : ℕ) (g : GSem nD τ sig) (i : Unit) (h : 0 < owedAt c n g i) : i ∈ L g ∧ (0 : ℕ) < lv g i := by
  have hX : ∀ j, 0 < owX c j g i → i ∈ L g ∧ (0 : ℕ) < lv g i := fun j hj => by
    obtain ⟨k, -, rfl⟩ := tally_sum_pos j (fun k => xrC (xn c) k) hj
    exact ⟨by rw [L_tc]; exact Finset.mem_singleton_self _, by show 0 < lvS _; rw [lvS_xr]; omega⟩
  have hY : ∀ j, 0 < owY c j g i → i ∈ L g ∧ (0 : ℕ) < lv g i := fun j hj => by
    obtain ⟨k, -, rfl⟩ := tally_sum_pos j (fun k => yrC (yn c) k) hj
    exact ⟨by rw [L_tc]; exact Finset.mem_singleton_self _, by show 0 < lvS _; rw [lvS_yr]; omega⟩
  have hB : ∀ d, 0 < (tallyAt (barC d) () 1 : CellTallies nD τ sig Unit) g i → i ∈ L g ∧ (0 : ℕ) < lv g i := fun d hd => by
    rw [tallyAt_apply] at hd
    by_cases hg : g = barC d ∧ i = ()
    · obtain ⟨rfl, -⟩ := hg
      exact ⟨by rw [L_tc]; exact Finset.mem_singleton_self _, by show 0 < lvS (.reg barS); decide⟩
    · rw [if_neg hg] at hd; exact absurd hd (Nat.lt_irrefl 0)
  unfold owedAt at h
  split at h
  · unfold O₀ at h
    rw [Pi.add_apply, Finsupp.add_apply, Pi.add_apply, Finsupp.add_apply, Pi.add_apply, Finsupp.add_apply] at h
    by_cases h1 : 0 < owX c 0 g i; · exact hX 0 h1
    by_cases h2 : 0 < owY c 0 g i; · exact hY 0 h2
    by_cases h3 : 0 < (tallyAt (barC (yn c)) () 1 : CellTallies nD τ sig Unit) g i; · exact hB _ h3
    exact hB (xn c) (by omega)
  · split at h
    · exact absurd h (Nat.lt_irrefl 0)
    · rw [Pi.add_apply, Finsupp.add_apply] at h
      by_cases h1 : 0 < owX c (n - 1) g i; · exact hX _ h1
      exact hY (n - 1 - 2) (by omega)

theorem owed_last (c : Dev nD) : owedAt c cfg0.N = 0 := by rw [show cfg0.N = 16 from N_0]; rfl
/-- The staging cells lie at the bottom. -/
theorem stage_low0 : ∀ (w : Fin 2) (s : Fin (spec0 w).nbuf), lvS (.dma ((spec0 w).sem s)) ≤ 0 := by decide
theorem stage_low1 : ∀ (w : Fin 3) (s : Fin (spec1 w).nbuf), lvS (.dma ((spec1 w).sem s)) ≤ 0 := by decide

/-- What enters the exchange's invariant. -/
theorem hin0 (c : Dev nD) : iprop(Pipeline.scopedRest (Pipeline.pin (pcfgs (F := F)) adm 0).spec c ∗ (∃ r, prngReg c r) ∗ StableHlo.held (c.tc : Thread nD τ) HX (V0 m c) ∗ Xk m c)
    ⊢ ((pdats m 0 c).Φ 0 : sProp 𝕄) := by
  rw [show (pdats m 0 c).Φ 0 = iprop((∃ κ, Inv m κ) ∗ Start' m c ∗ slots0 c ∗ ∃ r, prngReg c r) from rfl,
    show (Pipeline.scopedRest (Pipeline.pin (pcfgs (F := F)) adm 0).spec c : sProp 𝕄) = _ from scopedRest0_eq c, held_HX]
  unfold Xk slots0
  iintro ⟨⟨Ha, Hs⟩, Hp, ⟨Hl, Ho⟩, HI, HO⟩
  isplitl [HI]; · iexact HI
  isplitl [HO Hl Ho Ha]
  · iapply (start_intro m c (V0 m c (Proc.devRef .tc main_v1_0)) (V0 m c (Proc.devRef .tc main_v1_1)))
    isplitl [HO]; · iexact HO
    isplitl [Hl]; · iexact Hl
    isplitl [Ho]; · iexact Ho
    icases Ha with ⟨%f, Ha⟩
    iexists f
    iapply (Entails.of_eq (show ((((c : Thread nD τ).loc cc0_scratch0) ↦{fullShare} f) : sProp 𝕄) = aPt c f from by
      rw [show aPt c f = aM.view.loc (c : Thread nD τ) ↦[aM.view.set]{fullShare} f from rfl, View.set_whole _]))
    iexact Ha
  isplitl [Hs]; · iexact Hs
  iexact Hp

/-- What leaves it. -/
theorem hout0 (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) HX (VA m c) ∗ Pipeline.ownSems0 osem c ∗ semVal (barC c) 0) := by
  rw [show (pdats m 0 c).Φ (Fin.last (Pipeline.pin (pcfgs (F := F)) adm 0).N) = iprop((∃ κ, Inv m κ) ∗ St' m c cfg0.N ∗ slots0 c ∗ ∃ r, prngReg c r) from rfl,
    show St' m c cfg0.N = Final m c from by rw [show cfg0.N = 16 from N_0]; rfl,
    show (Pipeline.scopedRest (Pipeline.pin (pcfgs (F := F)) adm 0).spec c : sProp 𝕄) = _ from scopedRest0_eq c, held_HX, VA_l, VA_o]
  unfold Final slots0
  iintro ⟨-, ⟨Hb, Hos, Hl, Ho, ⟨%f, Ha⟩⟩, Hs, Hp⟩
  isplitl [Ha Hs]
  · isplitl [Ha]
    · iexists f
      iapply (Entails.of_eq (show (aPt c f : sProp 𝕄) = (((c : Thread nD τ).loc cc0_scratch0) ↦{fullShare} f) from by
        rw [show aPt c f = aM.view.loc (c : Thread nD τ) ↦[aM.view.set]{fullShare} f from rfl, View.set_whole _]))
      iexact Ha
    iexact Hs
  isplitl [Hp]; · iexact Hp
  isplitl [Hl Ho]; · isplitl [Hl] <;> iassumption
  isplitl [Hos] <;> iassumption

local notation "ℝ𝕊" => Pipeline.RegionSeg (pcfgs (F := F)) adm (pdats m) () defs₀ 𝒱₀ L lv

/-- The buffers that are no array of the exchange's windows. -/
abbrev SR : Finset (DevRef τ sig) := Pipeline.ucRefs τ sig \ Pipeline.arrRefs (τ := τ) spec0

set_option backward.isDefEq.respectTransparency.types false in
/-- The exchange's region. -/
def reg0 : ℝ𝕊 0 :=
  Pipeline.RegionSeg.ofTalk (pcfgs (F := F)) adm (pdats m) () defs₀ 𝒱₀ L lv 0 osem (by decide : Pipeline.OwnSemFacts spec0 osem)
    HX SR (by decide : HX ⊆ SR) launch0.toP rfl (fun c => (body0 m c).loose)
    (fun _ => 0) O₀ (fun c => (show owedAt c 0 = 0 + O₀ c from (zero_add _).symm)) (fun c => owed_last c) (fun _ => rfl) (fun c => (dat0 m c).share_full fun _ => rfl)
    (V0 m) (VA m) (fun c b hb => VA_off m c b (fun h => (Finset.mem_sdiff.mp hb).2 (by rw [h]; decide)) (fun h => (Finset.mem_sdiff.mp hb).2 (by rw [h]; decide)))
    (Tk m) (fun c => semVal (barC c) 0) (Xk m) (fun c => semVal (barC c) 0) (open_own m) (hin0 m) (hout0 m)
    (fun c => by iintro H; imodintro; iexact H)
    (fun _ => 0)
    ⟨fun c w s => by rw [L_tc]; exact Finset.mem_singleton_self _,
      fun c w s => stage_low0 w s,
      fun c t g i h => cut0 c t.val g i h⟩
    (fun _ => iprop(emp))
    (fun c => fun | 0 => rfl | 1 => rfl)
    (fun c => fun
      | 0 => ((dat0 m c).arrAt_in 0 rfl _).trans (VA_off m c (Proc.devRef .tc main_arg0) (by decide) (by decide)).symm
      | 1 => ((dat0 m c).arrAt_in 1 rfl _).trans (VA_off m c (Proc.devRef .tc main_arg1) (by decide) (by decide)).symm)

set_option backward.isDefEq.respectTransparency.types false in
/-- The softmax's region, owing nothing. -/
def reg1 : ℝ𝕊 1 :=
  Pipeline.RegionSeg.ofHeldIn (pcfgs (F := F)) adm (pdats m) () defs₀ 𝒱₀ L lv 1 (fun _ => 0) (Pipeline.ucRefs τ sig)
    (fun c => iprop(∃ r, prngReg c r)) (fun c => iprop(∃ r, prngReg c r)) launch1.toP rfl (fun c => (body1 m c).loose)
    (fun _ _ => rfl) (fun _ => rfl) (fun c => (dat1 m c).share_full fun _ => rfl)
    (fun c => Entails.of_eq (by rw [show (Pipeline.scopedRest (Pipeline.pin (pcfgs (F := F)) adm 1).spec c : sProp 𝕄) = _ from scopedRest1_eq c]; rfl))
    (fun c => Entails.of_eq (by rw [show (Pipeline.scopedRest (Pipeline.pin (pcfgs (F := F)) adm 1).spec c : sProp 𝕄) = _ from scopedRest1_eq c]; rfl))
    (fun _ => 0)
    ⟨fun c w s => by rw [L_tc]; exact Finset.mem_singleton_self _,
      fun c w s => stage_low1 w s,
      fun c g i h => absurd h (Nat.lt_irrefl 0)⟩
    (fun c => semVal (barC c) 0) (VA m)
    (fun c => fun
      | 0 => (VA_l m c).symm
      | 1 => (VA_o m c).symm
      | 2 => (VA_off m c (Proc.devRef .tc main_v2) (by decide) (by decide)).symm)

/-! ## The launch -/

theorem disjoint_cells : Disjoint (barCells : Finset (GSem nD τ sig)) ownCells := by
  rw [Finset.disjoint_left]
  rintro g h₁ h₂
  obtain ⟨c, -, rfl⟩ := Finset.mem_map.mp h₁
  obtain ⟨o, -, h⟩ := Finset.mem_map.mp h₂
  exact osem_ne_bar o.2 (congrArg Prod.snd h)

/-- The launch's ghost element: the pipelines' staging cells, and the exchange's cells with every duty's token. -/
def u₀ : UU :=
  (initOf (Pipeline.cells (Pipeline.pin (pcfgs (F := F)) adm) cellOf_inj) (Pipeline.launchToks (Pipeline.pin (pcfgs (F := F)) adm) cellOf_inj),
    launchOf barCells ownCells toks)

/-- The exchange's element whole, until every device's part is dealt from it. -/
abbrev seed : sProp 𝕄 := BI.own (ER (launchOf barCells ownCells toks))
/-- It is kept by device 0. -/
def G (c : Dev nD) : sProp 𝕄 := if c = 0 then seed else iprop(emp)
theorem G_all : bigSep Finset.univ G = (seed : sProp 𝕄) := by
  rw [bigSep_univ_at _ (0 : Dev nD), bigSep_congr (s := Finset.univ.erase (0 : Dev nD)) (Φ := G) (Ψ := fun _ => (BI.emp : sProp 𝕄))
    (fun c hc => if_neg (Finset.ne_of_mem_erase hc)), BI.bigSep_emp_const]
  unfold G; rw [if_pos rfl]
  exact BI.equiv_iff.mp sep_emp

/-- What a device enters @main with. -/
abbrev T₀ (c : Dev nD) : sProp 𝕄 :=
  iprop(StableHlo.held (c : Thread nD τ) (Pipeline.ucRefs τ sig) (V0 m c) ∗ (∃ r, prngReg c r) ∗ Tk m c ∗ ∃ W, owes (c : Thread nD τ) (O₀ c) W)
/-- What it leaves with. -/
abbrev Tₙ (c : Dev nD) : sProp 𝕄 := iprop(StableHlo.held (c : Thread nD τ) (Pipeline.ucRefs τ sig) (VB m c) ∗ semVal (barC c) 0)

theorem unscopedSems0_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What a device launches with beside the exchange's cells. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ Tk
  iintro ⟨#HR, Hl, Hh, Hc, HO, Hp⟩
  isplitl [Hh]; · iexact Hh
  isplitl [Hp]; · iexact Hp
  isplitr [HO]
  · isplitl [Hl]
    · iexists κ
      isplitr; · iexact HR
      iexact Hl
    iexact Hc
  · iexists ∅; iexact HO

theorem apart (Φ Ψ : Dev nD → sProp 𝕄) : bigSep Finset.univ (fun c => iprop(Φ c ∗ Ψ c)) ⊢ iprop(bigSep Finset.univ Φ ∗ bigSep Finset.univ Ψ) := Entails.of_eq (bigSep_sep' _ _ _)
theorem pair_up (Φ Ψ : Dev nD → sProp 𝕄) : iprop(bigSep Finset.univ Φ ∗ bigSep Finset.univ Ψ) ⊢ bigSep Finset.univ (fun c => iprop(Φ c ∗ Ψ c)) := Entails.of_eq (bigSep_sep' _ _ _).symm

variable (ρ : Dev nD → PrngReg)

/-- Every device's entry state, from what all of them launch with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c), unscopedSems0_bar]
    unfold bundle
    iintro ⟨Hh, Hus, HO, Hcr, Hp, HG⟩
    ihave Hc := (creds_intro c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => (bigSep Finset.univ fun o : OS => openTok ER ((c : Thread nD τ), osem o) : sProp 𝕄)) :=
    Entails.of_eq (by rw [bigSep_map, BI.bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (apart _ _) $$ H'; icases H2 with ⟨HB, H3⟩
  ihave H4 := (apart _ _) $$ H3; icases H4 with ⟨Hv, HG⟩
  ihave Hu := (show bigSep Finset.univ (G (F := F)) ⊢ (seed : sProp 𝕄) from Entails.of_eq (G_all (F := F))) $$ HG
  imod (Rounds.fund_launch ER (rd m) disjoint_cells (fun g _ h => h) toks) $$ [Hv Hu] with ⟨%κ, -, #Hinv, #Hr, Hat, Hopen, Htok⟩
  · isplitl [Hv]
    · iapply hv $$ Hv
    · iexact Hu
  imodintro
  iapply (BI.bigSep_with_persistent (R := records m κ) (Φ := fun c => iprop(linear c ∗ bundle m c)) fun c _ => T₀_intro m κ c)
  isplitr
  · unfold records
    isplitr; · iexact Hinv
    iexact Hr
  iapply (pair_up _ _)
  isplitr [HB]
  · unfold linear
    iapply (pair_up _ _); isplitl [Hat]; · iapply hat $$ Hat
    iapply (pair_up _ _); isplitl [Hopen]; · iapply hop $$ Hopen
    iapply (toks_around (F := F))
    iapply (Entails.of_eq (toks_eq (F := F))) $$ Htok
  · iexact HB

/-! ## The run -/

theorem reg0_pre (c : Dev nD) : T₀ m c ⊢ (reg0 m).pre c := by
  unfold T₀
  show _ ⊢ iprop(StableHlo.held (c.tc : Thread nD τ) (Pipeline.arrRefs (τ := τ) (pcfgs (F := F) 0).spec) (V0 m c) ∗ (∃ r, prngReg c r)
    ∗ (StableHlo.held (c.tc : Thread nD τ) SR (V0 m c) ∗ emp) ∗ Tk m c ∗ ∃ Wd, owes (c : Thread nD τ) (0 + O₀ c) Wd)
  rw [StableHlo.held_sub_split (c.tc : Thread nD τ) (arr0_sub (F := F)) (V0 m c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

/-- What a device holds between the regions. -/
abbrev TM (c : Dev nD) : sProp 𝕄 :=
  iprop(StableHlo.held (c : Thread nD τ) (Pipeline.ucRefs τ sig) (VA m c) ∗ ((∃ W, owes (c : Thread nD τ) (0 : CellTallies nD τ sig Unit) W) ∗ (∃ r, prngReg c r) ∗ semVal (barC c) 0))

theorem reg0_post (c : Dev nD) : (reg0 m).post c ⊢ TM m c := by
  unfold TM
  show iprop(StableHlo.held (c.tc : Thread nD τ) (Pipeline.arrRefs (τ := τ) (pcfgs (F := F) 0).spec) (VA m c) ∗ (∃ r, prngReg c r)
    ∗ (StableHlo.held (c.tc : Thread nD τ) SR (VA m c) ∗ emp) ∗ semVal (barC c) 0 ∗ ∃ Wd, owes (c : Thread nD τ) (0 : CellTallies nD τ sig Unit) Wd) ⊢ _
  rw [StableHlo.held_sub_split (c.tc : Thread nD τ) (arr0_sub (F := F)) (VA m c)]
  iintro ⟨Ha, Hp, ⟨Hr, -⟩, Hb, HO⟩
  isplitl [Ha Hr]; · isplitl [Ha] <;> iassumption
  isplitl [HO]; · iexact HO
  isplitl [Hp] <;> iassumption

theorem reg1_pre (c : Dev nD) : TM m c ⊢ (reg1 m).pre c := by
  unfold TM reg1
  exact Pipeline.RegionSeg.ofHeldIn_pre (D := fun _ => 0) (X := fun c => iprop(∃ r, prngReg c r)) (R := fun c => semVal (barC c) 0) (W := VA m) (arr1_sub (F := F)) c
theorem reg1_post (c : Dev nD) : (reg1 m).post c ⊢ iprop(Tₙ m c ∗ ∃ W, owes (c : Thread nD τ) (0 : CellTallies nD τ sig Unit) W) :=
  (Pipeline.RegionSeg.ofHeldIn_post (arr1_sub (F := F)) c).trans (by
    refine (show (iprop(StableHlo.held (c.tc : Thread nD τ) (Pipeline.ucRefs τ sig) (VB m c) ∗ ((∃ W, owes (c : Thread nD τ) (0 : CellTallies nD τ sig Unit) W) ∗ (∃ r, prngReg c r) ∗ semVal (barC c) 0)) : sProp 𝕄) ⊢ _ from ?_)
    iintro ⟨Hh, HO, -, Hb⟩
    isplitr [HO]
    · isplitl [Hh] <;> iassumption
    iexact HO)

theorem VB_arg0 (c : Dev nD) : VB m c (Proc.devRef .tc main_arg0) = m ((c : Thread nD τ).loc main_arg0) :=
  (Pipeline.afterRegion_off (dat1 m c) (VA m c) (Pipeline.ucRefs τ sig) (Proc.devRef .tc main_arg0) (by decide)).trans (VA_off m c _ (by decide) (by decide))
theorem VB_arg1 (c : Dev nD) : VB m c (Proc.devRef .tc main_arg1) = m ((c : Thread nD τ).loc main_arg1) :=
  (Pipeline.afterRegion_off (dat1 m c) (VA m c) (Pipeline.ucRefs τ sig) (Proc.devRef .tc main_arg1) (by decide)).trans (VA_off m c _ (by decide) (by decide))
theorem VB_v2 (c : Dev nD) : VB m c (Proc.devRef .tc main_v2) = (dat1 m c).arrAt 2 cfg1.N :=
  Pipeline.afterRegion_arr (dat1 m c) (VA m c) winFacts1.arr_inj 2

theorem unscoped_eq : ∀ sm : SemLoc sig, sm.isScoped .tc = false → sm = .reg barS := by decide

/-- @main as the two regions. -/
def segL : List (Pipeline.Seg (pcfgs (F := F)) adm (pdats m) () defs₀ 𝒱₀ L lv) := [.region (reg0 m), .region (reg1 m)]

set_option backward.isDefEq.respectTransparency.types false in
/-- THE RUN: from any memory with zero counters, every weakly fair execution terminates, and every final state has the
    arguments unchanged, the softmax's row blocks in the result, and every semaphore counter of the machine at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = (dat1 m c).arrAt 2 cfg1.N) ∧ r.2.sem = fun _ => 0) :=
  Pipeline.θ_run_regions_kit_sems (pcfgs (F := F)) adm (pdats m) () cellOf_inj EP defs₀ 𝒱₀ L lv m ρ main
    (segL m)
    (fun c Q => by
      rewrite [main_chain c, Pipeline.Seg.run_eq_chain,
        show (segL m).map Pipeline.Seg.prog = [
          Prog.lift (.customCall (Pipeline.entry 0) ()),
          Prog.lift (.customCall (Pipeline.entry 1) ()) ] from rfl]
      dsimp only
      exact .rfl)
    (by simp only [segL, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨reg0_pre m, fun c => (reg0_post m c).trans (reg1_pre m c), reg1_post m⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v2) = (dat1 m c).arrAt 2 cfg1.N) ∧ s.sem (barC c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (VB m c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (VB_arg0 m c),
          (h (Proc.devRef .tc main_arg1) (Finset.mem_filter.mpr ⟨StableHlo.devRef_mem_tcRefs main_arg1, by decide⟩)).trans (VB_arg1 m c),
          (h (Proc.devRef .tc main_v2) (Finset.mem_filter.mpr ⟨StableHlo.devRef_mem_tcRefs main_v2, by decide⟩)).trans (VB_v2 m c)⟩, by simpa using hb⟩
      iexact HSI)
    (hQ := fun s h hs => ⟨fun c => (h c).1,
      sem_eq_zero hs fun c sm hsm => by
        obtain rfl := unscoped_eq sm hsm
        exact (h c).2⟩)

end Cert.KernelIdeal.Proof

end
-- ==== Proof.Rows.lean ====
/-
  One row of the softmax over the extended reals: the sum and the maximum of a row of 16384 numbers taken chunk by chunk, in the
  order in which a device meets the chunks, and the quotient by a sum that is not zero.
-/
module

public import Idealize.ShloMosaic.PureOps.Ideal.Laws
public import Idealize.ShloMosaic.Lib.IdealHost

@[expose] public section

noncomputable section

namespace Cert.KernelIdeal.Proof

open Idealize.ShloMosaic
open scoped BigOperators

/-- The columns of n consecutive chunks of 512, chunk by chunk, are the n * 512 columns. -/
theorem sum_chunks (G : ℕ → EReal) (b n : ℕ) :
    ∑ k ∈ Finset.range n, ∑ q ∈ Finset.range 512, G (b + 512 * k + q) = ∑ j ∈ Finset.range (512 * n), G (b + j) := by
  induction n with
  | zero => simp
  | succ n ih =>
    rw [Finset.sum_range_succ, ih, show 512 * (n + 1) = 512 * n + 512 from by ring, Finset.sum_range_add]
    exact congrArg _ (Finset.sum_congr rfl fun q _ => congrArg G (by omega))

/-- The column where chunk n of a device begins: x is the device's own half, its sixteen chunks come first. -/
def colOf (x n : ℕ) : ℕ := if n < 16 then 8192 * x + 512 * n else (512 * (n - 16) + 8192) - 8192 * x

/-- Summed over the 32 chunks in a device's order, the columns are all 16384. -/
theorem sum_cols (G : ℕ → EReal) (x : ℕ) (hx : x < 2) :
    ∑ n ∈ Finset.range 32, ∑ q ∈ Finset.range 512, G (colOf x n + q) = ∑ j ∈ Finset.range 16384, G j := by
  have own : ∑ n ∈ Finset.range 16, ∑ q ∈ Finset.range 512, G (colOf x n + q) = ∑ j ∈ Finset.range 8192, G (8192 * x + j) := by
    rw [← sum_chunks G (8192 * x) 16]
    exact Finset.sum_congr rfl fun n hn => by
      have := Finset.mem_range.mp hn
      simp only [colOf, if_pos this]
  have peer : ∑ n ∈ Finset.range 16, ∑ q ∈ Finset.range 512, G (colOf x (16 + n) + q) = ∑ j ∈ Finset.range 8192, G (8192 * (1 - x) + j) := by
    rw [← sum_chunks G (8192 * (1 - x)) 16]
    exact Finset.sum_congr rfl fun n hn => by
      have := Finset.mem_range.mp hn
      refine Finset.sum_congr rfl fun q _ => congrArg G ?_
      unfold colOf; rw [if_neg (by omega)]; omega
  rw [show (32 : ℕ) = 16 + 16 from rfl, Finset.sum_range_add, own, peer, show (16384 : ℕ) = 8192 + 8192 from rfl, Finset.sum_range_add]
  obtain rfl | rfl : x = 0 ∨ x = 1 := by omega
  · simp
  · simp [add_comm]

/-- Every column is in one of a device's chunks. -/
theorem col_of (x j : ℕ) (hx : x < 2) (hj : j < 16384) : ∃ n < 32, ∃ q < 512, colOf x n + q = j := by
  unfold colOf
  by_cases h : j / 8192 = x
  · exact ⟨j % 8192 / 512, by omega, j % 512, by omega, by rw [if_pos (by omega)]; omega⟩
  · exact ⟨16 + j % 8192 / 512, by omega, j % 512, by omega, by rw [if_neg (by omega)]; omega⟩
theorem col_lt (x n q : ℕ) (hx : x < 2) (hn : n < 32) (hq : q < 512) : colOf x n + q < 16384 := by
  unfold colOf; split <;> omega

/-- A number is the greatest of a row's 16384. -/
def IsMax (G : ℕ → EReal) (μ : EReal) : Prop := ∀ b, μ ≤ b ↔ ∀ j < 16384, G j ≤ b
theorem IsMax.unique {G : ℕ → EReal} {μ ν : EReal} (h : IsMax G μ) (h' : IsMax G ν) : μ = ν :=
  le_antisymm ((h ν).mpr ((h' ν).mp le_rfl)) ((h' μ).mpr ((h μ).mp le_rfl))
theorem IsMax.attained {G : ℕ → EReal} {μ : EReal} (h : IsMax G μ) : ∃ j < 16384, G j = μ := by
  obtain ⟨j, hj, hm⟩ := Finset.exists_max_image (Finset.range 16384) G ⟨0, Finset.mem_range.mpr (by decide)⟩
  have hj' := Finset.mem_range.mp hj
  exact ⟨j, hj', le_antisymm ((h μ).mp le_rfl j hj') ((h _).mpr fun i hi => hm i (Finset.mem_range.mpr hi))⟩

/-- The fold of the maximum from below everything is the greatest. -/
theorem fold_max_le {n : ℕ} (f : Fin n → EReal) (b : EReal) :
    (Finset.univ : Finset (Fin n)).fold max ⊥ f ≤ b ↔ ∀ q, f q ≤ b := by
  rw [Finset.fold_max_le]; simp

/-- The 32 chunks' maxima, in a device's order, give the greatest of the row. -/
theorem isMax_cols (G : ℕ → EReal) (x : ℕ) (hx : x < 2) (μ : EReal)
    (h : ∀ b, μ ≤ b ↔ ∀ n ≤ 31, ∀ q : Fin 512, G (colOf x n + q.val) ≤ b) : IsMax G μ := fun b => by
  rw [h]
  constructor
  · intro hb j hj
    obtain ⟨n, hn, q, hq, rfl⟩ := col_of x j hx hj
    exact hb n (by omega) ⟨q, hq⟩
  · exact fun hb n hn q => hb _ (col_lt x n q.val hx (by omega) q.isLt)

theorem exp_nonneg (x : EReal) : 0 ≤ Ideal.exp x := by
  induction x using EReal.rec with
  | bot => exact le_rfl
  | top => exact le_top
  | coe r => exact EReal.coe_nonneg.mpr (Real.exp_pos r).le

/-- A number is a real. -/
def IsReal (x : EReal) : Prop := ∃ r : ℝ, x = (r : EReal)
theorem IsReal.add {x y : EReal} : IsReal x → IsReal y → IsReal (x + y) := by
  rintro ⟨r, rfl⟩ ⟨s, rfl⟩; exact ⟨r + s, (EReal.coe_add r s).symm⟩
theorem IsReal.mul {x y : EReal} : IsReal x → IsReal y → IsReal (x * y) := by
  rintro ⟨r, rfl⟩ ⟨s, rfl⟩; exact ⟨r * s, (EReal.coe_mul r s).symm⟩
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i
/-- A number whose absolute value is below infinity is a real. -/
theorem IsReal.of_abs_lt (x : EReal) (h : max x (-x) < ⊤) : IsReal x := by
  induction x using EReal.rec with
  | bot => simp at h
  | top => simp at h
  | coe r => exact ⟨r, rfl⟩

/-- The sum of the exponentials of a row of reals, lowered by its greatest, is not zero: the greatest's is one. -/
theorem sum_exp_ne_zero (G : ℕ → EReal) (μ : EReal) (h : IsMax G μ) (hr : ∀ j, IsReal (G j)) :
    ∑ j ∈ Finset.range 16384, Ideal.exp (G j - μ) ≠ 0 := by
  obtain ⟨j, hj, rfl⟩ := h.attained
  obtain ⟨r, e⟩ := hr j
  have one : Ideal.exp (G j - G j) = 1 := by
    rw [e, ← EReal.coe_sub, sub_self, Ideal.exp_coe, Real.exp_zero, EReal.coe_one]
  have le : Ideal.exp (G j - G j) ≤ ∑ i ∈ Finset.range 16384, Ideal.exp (G i - G j) :=
    Finset.single_le_sum (f := fun i => Ideal.exp (G i - G j)) (fun i _ => exp_nonneg _) (Finset.mem_range.mpr hj)
  intro e0; rw [one, e0] at le; exact absurd le (by simp)

/-- Times the reciprocal of the row's sum is divided by it. -/
theorem quotient (G : ℕ → EReal) (μ : EReal) (h : IsMax G μ) (hr : ∀ j, IsReal (G j)) (e : EReal) :
    e * Ideal.div 1 (∑ j ∈ Finset.range 16384, Ideal.exp (G j - μ)) = Ideal.div e (∑ j ∈ Finset.range 16384, Ideal.exp (G j - μ)) :=
  Ideal.mul_one_div (sum_exp_ne_zero G μ h hr)

end Cert.KernelIdeal.Proof

end
-- ==== Proof.Logits.lean ====
/-
  The product over the extended reals: what a device's chunks hold, of the whole matrices of which the devices have blocks.
-/
module

public import proofs.«01_k».proof.Proof.Rows
public import proofs.«01_k».proof.Proof.Run
public import Idealize.ShloMosaic.Lib.Pointwise
public import Idealize.ShloMosaic.Lib.Layout

@[expose] public section

noncomputable section

namespace Cert.KernelIdeal.Proof

open Cert.KernelIdeal Cert.KernelIdeal.Gen
open Idealize.ShloMosaic
open Idealize.ShloMosaic.TcCoe
open scoped BigOperators

/-- The whole x, and the whole w. -/
abbrev Xs : Type := (⟨2, ![2048, 4096]⟩ : Shape).Idx → EReal
abbrev Ws : Type := (⟨2, ![4096, 16384]⟩ : Shape).Idx → EReal

/-- Entry (r, j) of the product x w. -/
def lgt (X : Xs) (W : Ws) (r : Fin 2048) (j : ℕ) : EReal :=
  ∑ k : Fin 4096, X (ValueIdx.ix2 r k) * W (ValueIdx.ix2 k (Fin.ofNat 16384 j))

/-- A chunk of the product at an index. -/
theorem pay1_apply (x : Vec Ideal S2048x4096 .f32) (w : Vec Ideal S4096x512 .f32) (r : Fin 2048) (q : Fin 512) :
    k0_pay1 (F := Ideal) x w (ValueIdx.ix2 r q) = ∑ k : Fin 4096, x (ValueIdx.ix2 r k) * w (ValueIdx.ix2 k q) := by
  simp only [← ix2_eq_valueIdx]
  pointwise [k0_pay1]

theorem index0_1 : ∀ t : Fin grid0.N, win0_1.index t 0 = 0 ∧ win0_1.index t 1 = t.val := by decide
theorem index1_0 : ∀ t : Fin grid1.N, win1_0.index t 0 = 0 ∧ win1_0.index t 1 = t.val ∧ win1_0.index t 2 = 0 := by decide
theorem index1_1 : ∀ t : Fin grid1.N, win1_1.index t 0 = 0 ∧ win1_1.index t 1 = t.val ∧ win1_1.index t 2 = 0 := by decide
theorem index1_2 : ∀ t : Fin grid1.N, win1_2.index t 0 = t.val ∧ win1_2.index t 1 = 0 := by decide

/-- Where block t of a device's columns of w lies. -/
theorem wblk_emb (t : Fin grid0.N) (k : Fin 4096) (q : Fin 512) :
    (win0_1.blk t).view.emb (ValueIdx.ix2 k q) = (ValueIdx.ix2 k (⟨512 * t.val + q.val, by have := t.isLt; have h := N_0; omega⟩ : Fin 8192)) := by
  funext a
  match a with
  | 0 => refine Fin.ext ?_; show win0_1.index t 0 * 4096 + 1 * k.val = k.val; rw [(index0_1 t).1]; omega
  | 1 => refine Fin.ext ?_; show win0_1.index t 1 * 512 + 1 * q.val = 512 * t.val + q.val; rw [(index0_1 t).2]; omega
/-- Where a block of rows of a device's chunks lies. -/
theorem lblk_emb (t : Fin grid1.N) (k : Fin 16) (r : Fin 64) (q : Fin 512) :
    (win1_0.blk t).view.emb (ValueIdx.ix3 k r q) = (ValueIdx.ix3 k (⟨64 * t.val + r.val, by have := t.isLt; have h := N_1; omega⟩ : Fin 2048) q) := by
  funext a
  match a with
  | 0 => refine Fin.ext ?_; show win1_0.index t 0 * 16 + 1 * k.val = k.val; rw [(index1_0 t).1]; omega
  | 1 => refine Fin.ext ?_; show win1_0.index t 1 * 64 + 1 * r.val = 64 * t.val + r.val; rw [(index1_0 t).2.1]; omega
  | 2 => refine Fin.ext ?_; show win1_0.index t 2 * 512 + 1 * q.val = q.val; rw [(index1_0 t).2.2]; omega
/-- The same of the chunks received. -/
theorem oblk_emb (t : Fin grid1.N) (k : Fin 16) (r : Fin 64) (q : Fin 512) :
    (win1_1.blk t).view.emb (ValueIdx.ix3 k r q) = (ValueIdx.ix3 k (⟨64 * t.val + r.val, by have := t.isLt; have h := N_1; omega⟩ : Fin 2048) q) := by
  funext a
  match a with
  | 0 => refine Fin.ext ?_; show win1_1.index t 0 * 16 + 1 * k.val = k.val; rw [(index1_1 t).1]; omega
  | 1 => refine Fin.ext ?_; show win1_1.index t 1 * 64 + 1 * r.val = 64 * t.val + r.val; rw [(index1_1 t).2.1]; omega
  | 2 => refine Fin.ext ?_; show win1_1.index t 2 * 512 + 1 * q.val = q.val; rw [(index1_1 t).2.2]; omega
/-- Where a block of rows of the output lies. -/
theorem out_emb (t : Fin grid1.N) (r : Fin 64) (q : Fin 16384) :
    (win1_2.blk t).view.emb (ValueIdx.ix2 r q) = (ValueIdx.ix2 (⟨64 * t.val + r.val, by have := t.isLt; have h := N_1; omega⟩ : Fin 2048) q) := by
  funext a
  match a with
  | 0 => refine Fin.ext ?_; show win1_2.index t 0 * 64 + 1 * r.val = 64 * t.val + r.val; rw [(index1_2 t).1]; omega
  | 1 => refine Fin.ext ?_; show win1_2.index t 1 * 16384 + 1 * q.val = q.val; rw [(index1_2 t).2]; omega

/-- The devices' arguments are x, and their blocks of w. -/
def Holds (m : (ℓ : Loc nD τ sig) → Buf (Elt Ideal) ℓ) (X : Xs) (W : Ws) : Prop :=
  ∀ c : Dev nD, m ((c : Thread nD τ).loc main_arg0) = X
    ∧ m ((c : Thread nD τ).loc main_arg1) = Layout.blockN ⟨2, ![4096, 8192]⟩ ⟨2, ![4096, 16384]⟩ (Layout.meshBlock [2, 2] ![[], [0]] c) W

/-- A device's block of w is the half that its x names. -/
theorem wpart (W : Ws) (c : Dev nD) (k : Fin 4096) (q : Fin 8192) :
    (Layout.blockN ⟨2, ![4096, 8192]⟩ ⟨2, ![4096, 16384]⟩ (Layout.meshBlock [2, 2] ![[], [0]] c) W) (ValueIdx.ix2 k q)
      = W (ValueIdx.ix2 k (Fin.ofNat 16384 (8192 * (c.val / 2) + q.val))) := by
  have hc : c.val < 4 := c.isLt
  have hq := q.isLt
  rw [Layout.blockN_apply]
  refine congrArg W (funext fun a => Fin.ext ?_)
  match a with
  | 0 => show 0 * 4096 + k.val = k.val; omega
  | 1 =>
    have e : ∀ c : Dev nD, Layout.meshLin [2, 2] c.val [0] = c.val / 2 := by decide
    show Layout.meshLin [2, 2] c.val [0] * 8192 + q.val = (8192 * (c.val / 2) + q.val) % 16384
    rw [e]; omega

variable (m : (ℓ : Loc nD τ sig) → Buf (Elt Ideal) ℓ) (X : Xs) (W : Ws)

/-- Chunk k of a device's product is chunk k of its half of the columns of x w. -/
theorem lfin_apply (h : Holds m X W) (c : Dev nD) (k : Fin 16) (r : Fin 2048) (q : Fin 512) :
    lfin m c (ValueIdx.ix3 k r q) = lgt X W r (8192 * (c.val / 2) + 512 * k.val + q.val) := by
  show accv m c (ptOf k) (ValueIdx.ix2 r q) = _
  unfold accv
  rw [pay1_apply]
  refine Finset.sum_congr rfl fun d _ => ?_
  have hw : wblk m c (ptOf k) (ValueIdx.ix2 d q) = W (ValueIdx.ix2 d (Fin.ofNat 16384 (8192 * (c.val / 2) + 512 * k.val + q.val))) := by
    show m ((c : Thread nD τ).loc main_arg1) ((win0_1.blk (ptOf k)).view.emb (ValueIdx.ix2 d q)) = _
    rw [wblk_emb, (h c).2, wpart, ← Nat.add_assoc]
    rfl
  rw [hw]
  exact congrArg (· * _) (congrFun (h c).1 _)

/-- What a device receives is the other half of the columns. -/
theorem ofin_apply (h : Holds m X W) (c : Dev nD) (k : Fin 16) (r : Fin 2048) (q : Fin 512) :
    ofin m c (ValueIdx.ix3 k r q) = lgt X W r (8192 * (1 - c.val / 2) + 512 * k.val + q.val) := by
  have e1 : ∀ c : Dev nD, (xn c).val / 2 = 1 - c.val / 2 := by decide
  have e2 : ∀ c : Dev nD, (xn (yn c)).val / 2 = 1 - c.val / 2 := by decide
  unfold ofin
  split
  · rw [lfin_apply m X W h, e1]
  · rw [lfin_apply m X W h, e2]

end Cert.KernelIdeal.Proof

end
-- ==== Proof.SoftmaxValue.lean ====
/-
  The block that the second region leaves, over the extended reals: each row's exponentials, lowered by the row's greatest, over
  their sum.
-/
module

public import proofs.«01_k».proof.Proof.Logits

@[expose] public section

noncomputable section

namespace Cert.KernelIdeal.Proof

open Cert.KernelIdeal Cert.KernelIdeal.Gen
open Idealize.ShloMosaic
open Idealize.ShloMosaic.TcCoe
open scoped BigOperators

theorem ofBits_low : Ideal.ofBits .f32 0xFF800000#32 = ⊥ := by simp [Ideal.ofBits, Ideal.ieee]

/-- A chunk in the wide format holds the same numbers. -/
theorem cf_apply (v : Vec Ideal S1x64x512 .bf16) (r : Fin 64) (q : Fin 512) :
    cf (F := Ideal) v (ValueIdx.ix2 r q) = v (ValueIdx.ix3 0 r q) := by
  simp only [← ix2_eq_valueIdx, ← ix3_eq_valueIdx]
  pointwise [cf]

/-- The greatest of a chunk's row. -/
theorem mx1_apply (v : Vec Ideal S1x64x512 .bf16) (r : Fin 64) :
    mx1 (F := Ideal) v (ValueIdx.ix2 r 0) = (Finset.univ : Finset (Fin 512)).fold max ⊥ (fun q => v (ValueIdx.ix3 0 r q)) := by
  simp only [← ix2_eq_valueIdx, ← ix3_eq_valueIdx]
  pointwise [mx1, cf, ofBits_low]

/-- The greatest of the rows of chunks 0 … n. -/
theorem Mx_le (a : ℕ → Vec Ideal S1x64x512 .bf16) (r : Fin 64) (b : EReal) (n : ℕ) :
    Mx (F := Ideal) a n (ValueIdx.ix2 r 0) ≤ b ↔ ∀ k ≤ n, ∀ q : Fin 512, a k (ValueIdx.ix3 0 r q) ≤ b := by
  induction n with
  | zero =>
    show mx1 (F := Ideal) (a 0) (ValueIdx.ix2 r 0) ≤ b ↔ _
    rw [mx1_apply, fold_max_le]
    exact ⟨fun h k hk => by obtain rfl : k = 0 := by omega
                            exact h, fun h => h 0 le_rfl⟩
  | succ n ih =>
    show max (Mx (F := Ideal) a n (ValueIdx.ix2 r 0)) (mx1 (F := Ideal) (a (n + 1)) (ValueIdx.ix2 r 0)) ≤ b ↔ _
    rw [max_le_iff, ih, mx1_apply, fold_max_le]
    constructor
    · rintro ⟨h, h'⟩ k hk
      rcases Nat.lt_or_ge n k with hn | hn
      · obtain rfl : k = n + 1 := by omega
        exact h'
      · exact h k hn
    · exact fun h => ⟨fun k hk => h k (by omega), h (n + 1) le_rfl⟩

/-- A chunk's exponentials. -/
theorem ex_apply (μ : FVec Ideal S64x1 .f32) (v : Vec Ideal S1x64x512 .bf16) (r : Fin 64) (q : Fin 512) :
    ex (F := Ideal) μ v (ValueIdx.ix2 r q) = Ideal.exp (v (ValueIdx.ix3 0 r q) - μ (ValueIdx.ix2 r 0)) := by
  simp only [← ix2_eq_valueIdx, ← ix3_eq_valueIdx]
  pointwise [ex, spread, cf]

/-- A chunk's row sums. -/
theorem sm1_apply (e : FVec Ideal S64x512 .f32) (r : Fin 64) :
    sm1 (F := Ideal) e (ValueIdx.ix2 r 0) = ∑ q : Fin 512, e (ValueIdx.ix2 r q) := by
  simp only [← ix2_eq_valueIdx]
  pointwise [sm1]

/-- The row sums of the first n chunks. -/
theorem Sx_apply (μ : FVec Ideal S64x1 .f32) (a : ℕ → Vec Ideal S1x64x512 .bf16) (r : Fin 64) (n : ℕ) :
    Sx (F := Ideal) μ a n (ValueIdx.ix2 r 0)
      = ∑ k ∈ Finset.range n, ∑ q : Fin 512, Ideal.exp (a k (ValueIdx.ix3 0 r q) - μ (ValueIdx.ix2 r 0)) := by
  induction n with
  | zero => exact Ideal.ofBits_zero_f32
  | succ n ih =>
    show Sx (F := Ideal) μ a n (ValueIdx.ix2 r 0) + sm1 (F := Ideal) (ex μ (a n)) (ValueIdx.ix2 r 0) = _
    rw [ih, sm1_apply, Finset.sum_range_succ]
    exact congrArg _ (Finset.sum_congr rfl fun q _ => ex_apply μ (a n) r q)

/-- A block scaled by the reciprocals of its rows' sums. -/
theorem scale_apply (s : FVec Ideal S64x1 .f32) (d : Vec Ideal S64x16384 .f32) (r : Fin 64) (j : Fin 16384) :
    k1_pay1 (F := Ideal) s d (ValueIdx.ix2 r j) = d (ValueIdx.ix2 r j) * Ideal.div 1 (s (ValueIdx.ix2 r 0)) := by
  simp only [← ix2_eq_valueIdx]
  pointwise [k1_pay1]

/-- The column that a device's block has at j is at j in the row. -/
theorem colOf_chOf (c : Dev nD) (j : ℕ) (hj : j < 16384) : colOf (c.val / 2) (chOf c j) + j % 512 = j := by
  have hc : c.val < 4 := c.isLt
  unfold colOf chOf
  split
  · rw [if_pos (by omega)]; omega
  · rw [if_neg (by omega)]; omega
theorem chOf_lt (c : Dev nD) (j : ℕ) : chOf c j < 32 := by unfold chOf; split <;> omega

/-- The softmax of a row of reals. -/
def soft (G : ℕ → EReal) (μ : EReal) (j : ℕ) : EReal :=
  Ideal.div (Ideal.exp (G j - μ)) (∑ i ∈ Finset.range 16384, Ideal.exp (G i - μ))

/-- If a block's chunks hold, in a device's order, rows of reals, the block left is their softmax. -/
theorem softv_apply (c : Dev nD) (A B : Vec Ideal S16x64x512 .bf16) (G : Fin 64 → ℕ → EReal) (hr : ∀ r j, IsReal (G r j))
    (hA : ∀ (k : Fin 16) r q, A (ValueIdx.ix3 k r q) = G r (8192 * (c.val / 2) + 512 * k.val + q.val))
    (hB : ∀ (k : Fin 16) r q, B (ValueIdx.ix3 k r q) = G r (8192 * (1 - c.val / 2) + 512 * k.val + q.val))
    (r : Fin 64) (j : Fin 16384) :
    ∃ μ, IsMax (G r) μ ∧ softv (F := Ideal) c A B (ValueIdx.ix2 r j) = soft (G r) μ j.val := by
  have hc : c.val < 4 := c.isLt
  have hs : ∀ n < 32, ∀ (r : Fin 64) (q : Fin 512), seq (F := Ideal) A B n (ValueIdx.ix3 0 r q) = G r (colOf (c.val / 2) n + q.val) := by
    intro n hn r q
    unfold seq colOf
    by_cases h : n < 16
    · rw [if_pos h, if_pos h]
      refine (hA _ _ _).trans (congrArg (G r) ?_)
      show 8192 * (c.val / 2) + 512 * (n % 16) + q.val = _
      omega
    · rw [if_neg h, if_neg h]
      refine (hB _ _ _).trans (congrArg (G r) ?_)
      show 8192 * (1 - c.val / 2) + 512 * ((n - 16) % 16) + q.val = _
      omega
  have hmax : IsMax (G r) (Mx (F := Ideal) (seq A B) 31 (ValueIdx.ix2 r 0)) := by
    refine isMax_cols (G r) (c.val / 2) (by omega) _ fun b => ?_
    rw [Mx_le]
    exact forall_congr' fun n => forall_congr' fun hn => forall_congr' fun q => by rw [hs n (by omega)]
  refine ⟨_, hmax, ?_⟩
  have hsum : Sx (F := Ideal) (Mx (seq A B) 31) (seq A B) 32 (ValueIdx.ix2 r 0)
      = ∑ i ∈ Finset.range 16384, Ideal.exp (G r i - Mx (F := Ideal) (seq A B) 31 (ValueIdx.ix2 r 0)) := by
    rw [Sx_apply, ← sum_cols (fun i => Ideal.exp (G r i - Mx (F := Ideal) (seq A B) 31 (ValueIdx.ix2 r 0))) (c.val / 2) (by omega)]
    refine Finset.sum_congr rfl fun n hn => ?_
    rw [Finset.sum_range]
    exact Finset.sum_congr rfl fun q _ => by rw [hs n (Finset.mem_range.mp hn)]
  unfold softv
  rw [scale_apply, hsum, quotient (G r) _ hmax (hr r)]
  unfold soft
  refine congrArg (Ideal.div · _) ?_
  show ex (F := Ideal) (Mx (seq A B) 31) (seq A B (chOf c j.val)) (ValueIdx.ix2 r ⟨j.val % 512, _⟩) = _
  rw [ex_apply, hs _ (chOf_lt c j.val)]
  show Ideal.exp (G r (colOf (c.val / 2) (chOf c j.val) + j.val % 512) - _) = _
  rw [colOf_chOf c j.val j.isLt]

end Cert.KernelIdeal.Proof

end
-- ==== Proof.Reference.lean ====
/-
  The reference's result over the extended reals: each row of x w as its softmax.
-/
module

public import proofs.«01_k».proof.Proof.SoftmaxValue
public import proofs.«01_k».proof.Proof.Gen.ReferenceIdeal
public import proofs.«01_k».proof.Proof.Gen.ReferenceIdeal.Run

@[expose] public section

noncomputable section

namespace Cert.ReferenceIdeal.Proof

open Cert.ReferenceIdeal Cert.ReferenceIdeal.Gen
open Idealize.ShloMosaic
open Idealize.ShloMosaic.TcCoe
open Cert.KernelIdeal.Proof (Xs Ws lgt IsMax IsMax.unique fold_max_le ofBits_low soft)
open scoped BigOperators

/-- The reference's product. -/
def prod (X : Xs) (W : Ws) : FVec Ideal S2048x16384 .f32 :=
  Host.dotGeneral (φ₁ := .f32) (φ₂ := .f32) dot_S2048x4096_S4096x16384_S2048x16384_1_0_0_1_n_n none X W
/-- Its row maxima. -/
def top (Z : FVec Ideal S2048x16384 .f32) : FVec Ideal S2048 .f32 :=
  Host.reduce FloatOps.maximumf Z (constant S_ .f32 0xFF800000#32) reducesTo_S2048x16384_S2048_d1 h_S_
/-- A number for each row, along the row. -/
def along (v : FVec Ideal S2048 .f32) : FVec Ideal S2048x16384 .f32 :=
  broadcastInDim S2048x16384 ![0, 1] bcast_S2048x1_S2048x16384_0_1 (broadcastInDim S2048x1 ![0] bcast_S2048_S2048x1_0 v)
/-- Its exponentials. -/
def expo (Z : FVec Ideal S2048x16384 .f32) : FVec Ideal S2048x16384 .f32 := Host.exp (subf Z (along (top Z)))
/-- Its row sums. -/
def total (E : FVec Ideal S2048x16384 .f32) : FVec Ideal S2048 .f32 :=
  Host.reduceAdd E (constant S_ .f32 0x00000000#32) reducesTo_S2048x16384_S2048_d1 h_S_
/-- Its result. -/
def out (X : Xs) (W : Ws) : FVec Ideal S2048x16384 .f32 := Host.divf (expo (prod X W)) (along (total (expo (prod X W))))

theorem prod_apply (X : Xs) (W : Ws) (r : Fin 2048) (j : Fin 16384) : prod X W (ValueIdx.ix2 r j) = lgt X W r j.val := by
  have e : Fin.ofNat 16384 j.val = j := Fin.ext (Nat.mod_eq_of_lt j.isLt)
  unfold lgt
  rw [e]
  simp only [← ix2_eq_valueIdx]
  pointwise [prod]
theorem top_apply (Z : FVec Ideal S2048x16384 .f32) (r : Fin 2048) :
    top Z (ValueIdx.ix1 r) = (Finset.univ : Finset (Fin 16384)).fold max ⊥ (fun q => Z (ValueIdx.ix2 r q)) := by
  simp only [← ix2_eq_valueIdx, ← ix1_eq_valueIdx]
  pointwise [top, ofBits_low]
theorem along_apply (v : FVec Ideal S2048 .f32) (r : Fin 2048) (j : Fin 16384) : along v (ValueIdx.ix2 r j) = v (ValueIdx.ix1 r) := by
  simp only [← ix2_eq_valueIdx, ← ix1_eq_valueIdx]
  pointwise [along]
theorem expo_apply (Z : FVec Ideal S2048x16384 .f32) (r : Fin 2048) (j : Fin 16384) :
    expo Z (ValueIdx.ix2 r j) = Ideal.exp (Z (ValueIdx.ix2 r j) - top Z (ValueIdx.ix1 r)) := by
  show Ideal.exp (Z (ValueIdx.ix2 r j) - along (top Z) (ValueIdx.ix2 r j)) = _
  rw [along_apply]
theorem total_apply (E : FVec Ideal S2048x16384 .f32) (r : Fin 2048) :
    total E (ValueIdx.ix1 r) = ∑ q : Fin 16384, E (ValueIdx.ix2 r q) := by
  simp only [← ix2_eq_valueIdx, ← ix1_eq_valueIdx]
  pointwise [total]

theorem quot_apply (a b : FVec Ideal S2048x16384 .f32) (i : S2048x16384.Idx) : Host.divf a b i = Ideal.div (a i) (b i) := rfl

/-- The reference's result at an index is the softmax of the row, lowered by whatever is its greatest. -/
theorem out_apply (X : Xs) (W : Ws) (r : Fin 2048) (j : Fin 16384) (μ : EReal) (hμ : IsMax (lgt X W r) μ) :
    out X W (ValueIdx.ix2 r j) = soft (lgt X W r) μ j.val := by
  have ht : top (prod X W) (ValueIdx.ix1 r) = μ := by
    refine IsMax.unique (G := lgt X W r) (fun b => ?_) hμ
    rw [top_apply, fold_max_le]
    exact ⟨fun h i hi => by rw [← prod_apply X W r ⟨i, hi⟩]; exact h ⟨i, hi⟩, fun h q => by rw [prod_apply]; exact h _ q.isLt⟩
  unfold out
  rw [quot_apply, along_apply, total_apply, expo_apply, ht, prod_apply]
  unfold soft
  rw [Finset.sum_range]
  exact congrArg _ (Finset.sum_congr rfl fun q _ => by rw [expo_apply, ht, prod_apply])

end Cert.ReferenceIdeal.Proof

end
-- ==== Proof.Equation.lean ====
/-
  The two results are one array: what each device holds at the end is what the reference computes of the whole matrices.
-/
module

public import proofs.«01_k».proof.Proof.Reference
public import Idealize.ShloMosaic.Lib.Pipeline.ValueKit

@[expose] public section

noncomputable section

namespace Cert.KernelIdeal.Proof

open Cert.KernelIdeal Cert.KernelIdeal.Gen
open Idealize.ShloMosaic
open Idealize.ShloMosaic.TcCoe
open Idealize.ShloMosaic.Pipeline (Dat)
open scoped BigOperators

/-- Different points write different blocks of the output. -/
theorem out_disjoint : ∀ t t' : Fin cfg1.N, (cfg1.win 2).flush t = true → (cfg1.win 2).flush t' = true → t ≠ t' →
    Disjoint ((cfg1.win 2).blk t).view.set ((cfg1.win 2).blk t').view.set :=
  Pipeline.Window.hdisj_of_index_inj (cfg1.win 2) fun t t' _ _ h =>
    Fin.ext (((index1_2 t).1.symm.trans (congrFun h 0)).trans (index1_2 t').1)

variable (m : (ℓ : Loc nD τ sig) → Buf (Elt Ideal) ℓ) (X : Xs) (W : Ws)

/-- The output holds, block by block, what each point's body left. -/
theorem arr_apply (c : Dev nD) (t : Fin cfg1.N) (r : Fin 64) (j : Fin 16384) (i : Fin 2048) (hi : i.val = 64 * t.val + r.val) :
    (dat1 m c).arrAt 2 cfg1.N (ValueIdx.ix2 i j) = softv (F := Ideal) c (lblk m c t) (oblk m c t) (ValueIdx.ix2 r j) := by
  have h := (dat1 m c).arrAt_emb_eq_flushed 2 out_disjoint t (flush1_2 t) (ValueIdx.ix2 r j)
  have e := out_emb t r j
  rw [show (⟨64 * t.val + r.val, by have := t.isLt; have h := N_1; omega⟩ : Fin 2048) = i from Fin.ext hi.symm] at e
  exact (congrArg ((dat1 m c).arrAt 2 cfg1.N) e.symm).trans h

/-- Entries of the product of two matrices of reals are reals. -/
theorem lgt_real (hX : ∀ i, IsReal (X i)) (hW : ∀ i, IsReal (W i)) (r : Fin 2048) (j : ℕ) : IsReal (lgt X W r j) :=
  IsReal.sum _ _ fun _ => (hX _).mul (hW _)

/-- Every device ends with the reference's result. -/
theorem out_eq (h : Holds m X W) (hX : ∀ i, IsReal (X i)) (hW : ∀ i, IsReal (W i)) (c : Dev nD) :
    (dat1 m c).arrAt 2 cfg1.N = Cert.ReferenceIdeal.Proof.out X W := by
  funext y
  obtain ⟨i, j, rfl⟩ : ∃ (i : Fin 2048) (j : Fin 16384), y = ValueIdx.ix2 i j := ⟨y 0, y 1, ValueIdx.eq_ix2 y⟩
  have hi := i.isLt
  let t : Fin grid1.N := ⟨i.val / 64, by have h := N_1; omega⟩
  let row : Fin 64 → Fin 2048 := fun r => ⟨64 * t.val + r.val, by have := r.isLt; show 64 * (i.val / 64) + _ < _; omega⟩
  let r : Fin 64 := ⟨i.val % 64, by omega⟩
  have hrow : row r = i := Fin.ext (show 64 * (i.val / 64) + i.val % 64 = i.val by omega)
  rw [arr_apply m c t r j i (congrArg Fin.val hrow.symm)]
  obtain ⟨μ, hμ, e⟩ := softv_apply c (lblk m c t) (oblk m c t) (fun r => lgt X W (row r)) (fun r j => lgt_real X W hX hW _ j)
    (fun k r q => by
      show lfin m c ((win1_0.blk t).view.emb (ValueIdx.ix3 k r q)) = _
      rw [lblk_emb]; exact lfin_apply m X W h c k (row r) q)
    (fun k r q => by
      show ofin m c ((win1_1.blk t).view.emb (ValueIdx.ix3 k r q)) = _
      rw [oblk_emb]; exact ofin_apply m X W h c k (row r) q) r j
  rw [e]
  simp only [hrow] at hμ ⊢
  exact (Cert.ReferenceIdeal.Proof.out_apply X W i j μ hμ).symm

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- The kernel and its idealization have the same bodies. -/
theorem bodies_same : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
  | 1 => rfl
theorem defs_same : Cert.Kernel.defs (F := Bits) = Cert.KernelIdeal.defs (F := Bits) := congrArg _ bodies_same
theorem main_same : Cert.Kernel.main (F := Bits) = Cert.KernelIdeal.main (F := Bits) := rfl

/-- The kernel terminates without fault, leaves its arguments and zeroes every counter: the run of the idealized program, which
    has the same text, read at the bit-exact floats. -/
theorem frame_kernel : Cert.quiescent_Kernel := fun m ρ _ => by
  rw [defs_same, main_same]
  exact (θ_run (Cert.KernelIdeal.defs (F := Bits)) _ _).mono (fun _ h => ⟨fun c => ⟨(h.1 c).1, (h.1 c).2.1⟩, h.2⟩) (Cert.KernelIdeal.Proof.run_main (F := Bits) m ρ)

/-- The same of the idealized kernel. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩) (Cert.KernelIdeal.Proof.run_main (F := Ideal) m ρ)

/-- The same of the reference, which declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem facts_pre_kernel : Cert.Pre_finite_KernelIdeal.Facts := ⟨by decide, by decide⟩
theorem facts_pre_reference : Cert.Pre_finite_ReferenceIdeal.Facts := ⟨by decide, by decide⟩

theorem ofBits_high : Ideal.ofBits .f32 0x7F800000#32 = ⊤ := by simp [Ideal.ofBits, Ideal.ieee]

/-- An element whose magnitude compares below plus infinity is a real. -/
theorem real_of_lt {s : Shape} (x : FVec Ideal s .f32) (hb : (⟨0, ![]⟩ : Shape).BroadcastsInDim s (![] : Fin 0 → Fin s.rank)) (i : s.Idx)
    (h : cmpf .olt (Host.absf x) (broadcastInDim s ![] hb (constant (⟨0, ![]⟩ : Shape) .f32 0x7F800000#32)) i = 1#1) :
    Cert.KernelIdeal.Proof.IsReal (x i) := by
  refine Cert.KernelIdeal.Proof.IsReal.of_abs_lt (x i) ?_
  by_contra hn
  have e : cmpf .olt (Host.absf x) (broadcastInDim s ![] hb (constant (⟨0, ![]⟩ : Shape) .f32 0x7F800000#32)) i
      = BitVec.ofBool (decide (max (x i) (-(x i)) < Ideal.ofBits .f32 0x7F800000#32)) := rfl
  rw [e, ofBits_high, decide_eq_false hn] at h
  exact absurd h (by decide)

/-- Every entry of the whole w is a real when every device's block of it is: column j is in the block of a device whose x is j / 8192. -/
theorem whole_real (W : Cert.KernelIdeal.Proof.Ws)
    (h : ∀ (c : Dev Cert.KernelIdeal.nD) k q, Cert.KernelIdeal.Proof.IsReal
      ((Layout.blockN ⟨2, ![4096, 8192]⟩ ⟨2, ![4096, 16384]⟩ (Layout.meshBlock [2, 2] ![[], [0]] c) W) (ValueIdx.ix2 k q))) :
    ∀ i, Cert.KernelIdeal.Proof.IsReal (W i) := fun i => by
  obtain ⟨k, j, rfl⟩ : ∃ (k : Fin 4096) (j : Fin 16384), i = ValueIdx.ix2 k j := ⟨i 0, i 1, ValueIdx.eq_ix2 i⟩
  have hj := j.isLt
  let c : Dev Cert.KernelIdeal.nD := ⟨2 * (j.val / 8192), show _ < 4 by omega⟩
  have e := h c k ⟨j.val % 8192, by omega⟩
  rw [Cert.KernelIdeal.Proof.wpart] at e
  have hc : Fin.ofNat 16384 (8192 * (c.val / 2) + j.val % 8192) = j :=
    Fin.ext (show (8192 * (2 * (j.val / 8192) / 2) + j.val % 8192) % 16384 = j.val by omega)
  exact hc ▸ e

/-- On finite inputs the kernel and the reference compute the same array over the extended reals: every device ends with the
    row-wise softmax of the whole product, which is what the reference returns. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_pre_kernel) := fun m g m' g' hp hm => by
  let X : Cert.KernelIdeal.Proof.Xs := m' ((((0 : Dev Cert.ReferenceIdeal.nD).tc : Thread Cert.ReferenceIdeal.nD Cert.ReferenceIdeal.τ)).loc Cert.ReferenceIdeal.main_arg0)
  let W : Cert.KernelIdeal.Proof.Ws := m' ((((0 : Dev Cert.ReferenceIdeal.nD).tc : Thread Cert.ReferenceIdeal.nD Cert.ReferenceIdeal.τ)).loc Cert.ReferenceIdeal.main_arg1)
  have h : Cert.KernelIdeal.Proof.Holds m X W := hm
  have hX : ∀ i, Cert.KernelIdeal.Proof.IsReal (X i) := fun i => by
    rw [← (h 0).1]
    exact real_of_lt _ facts_pre_kernel.bcast_S_S2048x4096 i (congrFun (hp 0).1 i)
  have hW : ∀ i, Cert.KernelIdeal.Proof.IsReal (W i) := whole_real W fun c k q => by
    rw [← (h c).2]
    exact real_of_lt _ facts_pre_kernel.bcast_S_S4096x8192 (ValueIdx.ix2 k q) (congrFun (hp c).2 (ValueIdx.ix2 k q))
  refine ⟨Cert.ReferenceIdeal.Proof.out X W, ?_, ?_⟩
  · exact (θ_run (Cert.KernelIdeal.defs (F := Ideal)) _ _).mono
      (fun _ r c => ⟨(r.1 c).2.2.trans (Cert.KernelIdeal.Proof.out_eq m X W h hX hW c), (r.1 c).1, (r.1 c).2.1⟩)
      (Cert.KernelIdeal.Proof.run_main (F := Ideal) m g)
  · exact (θ_run (Cert.ReferenceIdeal.defs (F := Ideal)) _ _).mono (fun _ r => r 0) (Cert.ReferenceIdeal.Value.run (F := Ideal) m' g')

theorem claim : Cert.Claim := ⟨Cert.Kernel.Gen.facts, Cert.KernelIdeal.Gen.facts, Cert.ReferenceIdeal.Gen.facts, facts_pre_kernel, facts_pre_reference,
  frame_kernel, frame_ideal, fun m ρ _ => frame_ideal m ρ trivial, frame_reference, fun m ρ _ => frame_reference m ρ trivial, trivial, algebraic⟩

end Cert.Proof

end
